-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v105) = v0 c
          ∧ r.2.mem ((c.tc : Thread Cert.ReferenceIdeal.nD Cert.ReferenceIdeal.τ).loc Cert.ReferenceIdeal.main_v118) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S8x256x8192 : Shape := ⟨3, ![8, 256, 8192]⟩
abbrev S2x2x256 : Shape := ⟨3, ![2, 2, 256]⟩
abbrev S2x256 : Shape := ⟨2, ![2, 256]⟩
abbrev S_ : Shape := ⟨0, ![]⟩

class Facts : Prop where
  bcast_S_S8x256x8192 : S_.BroadcastsInDim S8x256x8192 (![] : Fin 0 → Fin S8x256x8192.rank)

variable [Facts]

def fn {F : FTy → Type} [FloatOps F] (main_arg0 : FVec F S8x256x8192 .f32) (main_arg1 : FVec F S8x256x8192 .f32) (main_arg2 : FVec F S2x2x256 .f32) (main_arg3 : FVec F S2x256 .f32) : IVec S8x256x8192 1 :=
  let main_v0 : FVec F S8x256x8192 .f32 := Host.absf main_arg0
  let main_cst : FVec F S_ .f32 := constant S_ .f32 0x7F800000#32
  let main_v1 : FVec F S8x256x8192 .f32 := broadcastInDim S8x256x8192 ![] bcast_S_S8x256x8192 main_cst
  let main_v2 : IVec S8x256x8192 1 := cmpf .olt main_v0 main_v1
  let main_v3 : FVec F S8x256x8192 .f32 := Host.absf main_arg1
  let main_cst_0 : FVec F S_ .f32 := constant S_ .f32 0x7F800000#32
  let main_v4 : FVec F S8x256x8192 .f32 := broadcastInDim S8x256x8192 ![] bcast_S_S8x256x8192 main_cst_0
  let main_v5 : IVec S8x256x8192 1 := cmpf .olt main_v3 main_v4
  let main_v6 : IVec S8x256x8192 1 := andi main_v2 main_v5
  main_v6
-- ==== Kernel.lean ====
abbrev S8x256x8192 : Shape := ⟨3, ![8, 256, 8192]⟩
abbrev S2x2x256 : Shape := ⟨3, ![2, 2, 256]⟩
abbrev S2x256 : Shape := ⟨2, ![2, 256]⟩
abbrev S4x256 : Shape := ⟨2, ![4, 256]⟩
abbrev S1x256x4096 : Shape := ⟨3, ![1, 256, 4096]⟩
abbrev S256x4 : Shape := ⟨2, ![256, 4]⟩
abbrev S256x2 : Shape := ⟨2, ![256, 2]⟩
abbrev S256x1 : Shape := ⟨2, ![256, 1]⟩
abbrev S1x64x128 : Shape := ⟨3, ![1, 64, 128]⟩
abbrev S64x128 : Shape := ⟨2, ![64, 128]⟩
abbrev S8x8x128 : Shape := ⟨3, ![8, 8, 128]⟩
abbrev S8x128 : Shape := ⟨2, ![8, 128]⟩
abbrev S128 : Shape := ⟨1, ![128]⟩
abbrev S1x128 : Shape := ⟨2, ![1, 128]⟩
abbrev S32x1 : Shape := ⟨2, ![32, 1]⟩
abbrev S1x512 : Shape := ⟨2, ![1, 512]⟩
abbrev S1x32x512 : Shape := ⟨3, ![1, 32, 512]⟩
abbrev S32x512 : Shape := ⟨2, ![32, 512]⟩

abbrev nBuf : Space → Nat
  | .hbm => 7
  | .vmem => 10
  | .smem => 0
  | _ => 0

abbrev bufTy : (tb : Table) → Fin (tcTables nBuf tb) → BufTy
  | .hbm, ⟨0, _⟩ => ⟨S8x256x8192, .f32⟩
  | .hbm, ⟨1, _⟩ => ⟨S8x256x8192, .f32⟩
  | .hbm, ⟨2, _⟩ => ⟨S2x2x256, .f32⟩
  | .hbm, ⟨3, _⟩ => ⟨S2x256, .f32⟩
  | .hbm, ⟨4, _⟩ => ⟨S4x256, .f32⟩
  | .hbm, ⟨5, _⟩ => ⟨S8x256x8192, .f32⟩
  | .hbm, ⟨6, _⟩ => ⟨S8x256x8192, .f32⟩
  | .local _ .vmem, ⟨0, _⟩ => ⟨S1x256x4096, .f32⟩
  | .local _ .vmem, ⟨1, _⟩ => ⟨S1x256x4096, .f32⟩
  | .local _ .vmem, ⟨2, _⟩ => ⟨S1x256x4096, .f32⟩
  | .local _ .vmem, ⟨3, _⟩ => ⟨S1x256x4096, .f32⟩
  | .local _ .vmem, ⟨4, _⟩ => ⟨S4x256, .f32⟩
  | .local _ .vmem, ⟨5, _⟩ => ⟨S2x256, .f32⟩
  | .local _ .vmem, ⟨6, _⟩ => ⟨S1x256x4096, .f32⟩
  | .local _ .vmem, ⟨7, _⟩ => ⟨S1x256x4096, .f32⟩
  | .local _ .vmem, ⟨8, _⟩ => ⟨S1x256x4096, .f32⟩
  | .local _ .vmem, ⟨9, _⟩ => ⟨S1x256x4096, .f32⟩
  | _, _ => ⟨S8x256x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S4x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S2x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S8x256x8192 : Shape := ⟨3, ![8, 256, 8192]⟩
abbrev S2x2x256 : Shape := ⟨3, ![2, 2, 256]⟩
abbrev S2x256 : Shape := ⟨2, ![2, 256]⟩
abbrev S_ : Shape := ⟨0, ![]⟩
abbrev S8x8192 : Shape := ⟨2, ![8, 8192]⟩
abbrev S8x1x8192 : Shape := ⟨3, ![8, 1, 8192]⟩
abbrev S2x2x1x256x1 : Shape := ⟨5, ![2, 2, 1, 256, 1]⟩
abbrev S2x1x256x1 : Shape := ⟨4, ![2, 1, 256, 1]⟩
abbrev S1x1x1x256x1 : Shape := ⟨5, ![1, 1, 1, 256, 1]⟩
abbrev S1x256x1 : Shape := ⟨3, ![1, 256, 1]⟩
abbrev S1x1x256x1 : Shape := ⟨4, ![1, 1, 256, 1]⟩

abbrev nBuf : Space → Nat
  | .hbm => 152
  | .vmem => 0
  | .smem => 0
  | _ => 0

abbrev hbmTy0_0 (i : Nat) : BufTy := match i % 128 with
  | 0 => ⟨S8x256x8192, .f32⟩
  | 1 => ⟨S8x256x8192, .f32⟩
  | 2 => ⟨S2x2x256, .f32⟩
  | 3 => ⟨S2x256, .f32⟩
  | 4 => ⟨S_, .f32⟩
  | 5 => ⟨S8x8192, .f32⟩
  | 6 => ⟨S8x1x8192, .f32⟩
  | 7 => ⟨S_, .f32⟩
  | 8 => ⟨S8x1x8192, .f32⟩
  | 9 => ⟨S8x1x8192, .f32⟩
  | 10 => ⟨S8x256x8192, .f32⟩
  | 11 => ⟨S8x256x8192, .f32⟩
  | 12 => ⟨S_, .f32⟩
  | 13 => ⟨S8x8192, .f32⟩
  | 14 => ⟨S8x1x8192, .f32⟩
  | 15 => ⟨S_, .f32⟩
  | 16 => ⟨S8x1x8192, .f32⟩
  | 17 => ⟨S8x1x8192, .f32⟩
  | 18 => ⟨S8x256x8192, .f32⟩
  | 19 => ⟨S8x256x8192, .f32⟩
  | 20 => ⟨S8x256x8192, .f32⟩
  | 21 => ⟨S_, .f32⟩
  | 22 => ⟨S8x8192, .f32⟩
  | 23 => ⟨S8x1x8192, .f32⟩
  | 24 => ⟨S_, .f32⟩
  | 25 => ⟨S8x1x8192, .f32⟩
  | 26 => ⟨S8x1x8192, .f32⟩
  | 27 => ⟨S_, .f32⟩
  | 28 => ⟨S8x1x8192, .f32⟩
  | 29 => ⟨S8x1x8192, .f32⟩
  | 30 => ⟨S8x256x8192, .f32⟩
  | 31 => ⟨S_, .f32⟩
  | 32 => ⟨S8x8192, .f32⟩
  | 33 => ⟨S8x1x8192, .f32⟩
  | 34 => ⟨S_, .f32⟩
  | 35 => ⟨S8x1x8192, .f32⟩
  | 36 => ⟨S8x1x8192, .f32⟩
  | 37 => ⟨S8x256x8192, .f32⟩
  | 38 => ⟨S_, .f32⟩
  | 39 => ⟨S8x8192, .f32⟩
  | 40 => ⟨S8x1x8192, .f32⟩
  | 41 => ⟨S_, .f32⟩
  | 42 => ⟨S8x1x8192, .f32⟩
  | 43 => ⟨S8x1x8192, .f32⟩
  | 44 => ⟨S_, .f32⟩
  | 45 => ⟨S8x1x8192, .f32⟩
  | 46 => ⟨S8x1x8192, .f32⟩
  | 47 => ⟨S8x1x8192, .f32⟩
  | 48 => ⟨S_, .f32⟩
  | 49 => ⟨S8x1x8192, .f32⟩
  | 50 => ⟨S8x1x8192, .f32⟩
  | 51 => ⟨S8x1x8192, .f32⟩
  | 52 => ⟨S_, .f32⟩
  | 53 => ⟨S8x1x8192, .f32⟩
  | 54 => ⟨S8x1x8192, .f32⟩
  | 55 => ⟨S8x1x8192, .f32⟩
  | 56 => ⟨S8x1x8192, .f32⟩
  | 57 => ⟨S8x1x8192, .f32⟩
  | 58 => ⟨S8x1x8192, .f32⟩
  | 59 => ⟨S8x1x8192, .f32⟩
  | 60 => ⟨S8x1x8192, .f32⟩
  | 61 => ⟨S_, .f32⟩
  | 62 => ⟨S8x1x8192, .f32⟩
  | 63 => ⟨S8x1x8192, .i1⟩
  | 64 => ⟨S8x1x8192, .f32⟩
  | 65 => ⟨S_, .f32⟩
  | 66 => ⟨S_, .f32⟩
  | 67 => ⟨S8x1x8192, .f32⟩
  | 68 => ⟨S8x1x8192, .f32⟩
  | 69 => ⟨S_, .f32⟩
  | 70 => ⟨S8x1x8192, .f32⟩
  | 71 => ⟨S8x1x8192, .f32⟩
  | 72 => ⟨S_, .f32⟩
  | 73 => ⟨S8x1x8192, .f32⟩
  | 74 => ⟨S8x1x8192, .f32⟩
  | 75 => ⟨S8x1x8192, .f32⟩
  | 76 => ⟨S_, .f32⟩
  | 77 => ⟨S8x1x8192, .f32⟩
  | 78 => ⟨S8x1x8192, .i1⟩
  | 79 => ⟨S_, .f32⟩
  | 80 => ⟨S_, .f32⟩
  | 81 => ⟨S8x1x8192, .f32⟩
  | 82 => ⟨S8x1x8192, .f32⟩
  | 83 => ⟨S8x1x8192, .f32⟩
  | 84 => ⟨S_, .f32⟩
  | 85 => ⟨S8x1x8192, .f32⟩
  | 86 => ⟨S8x1x8192, .f32⟩
  | 87 => ⟨S_, .f32⟩
  | 88 => ⟨S8x1x8192, .f32⟩
  | 89 => ⟨S8x1x8192, .f32⟩
  | 90 => ⟨S8x1x8192, .f32⟩
  | 91 => ⟨S8x1x8192, .f32⟩
  | 92 => ⟨S8x1x8192, .f32⟩
  | 93 => ⟨S_, .f32⟩
  | 94 => ⟨S8x1x8192, .f32⟩
  | 95 => ⟨S8x1x8192, .f32⟩
  | 96 => ⟨S_, .f32⟩
  | 97 => ⟨S8x1x8192, .f32⟩
  | 98 => ⟨S8x1x8192, .f32⟩
  | 99 => ⟨S8x1x8192, .f32⟩
  | 100 => ⟨S8x1x8192, .f32⟩
  | 101 => ⟨S8x1x8192, .f32⟩
  | 102 => ⟨S8x1x8192, .f32⟩
  | 103 => ⟨S8x1x8192, .f32⟩
  | 104 => ⟨S8x1x8192, .f32⟩
  | 105 => ⟨S8x1x8192, .f32⟩
  | 106 => ⟨S8x1x8192, .f32⟩
  | 107 => ⟨S8x1x8192, .f32⟩
  | 108 => ⟨S8x1x8192, .f32⟩
  | 109 => ⟨S8x1x8192, .f32⟩
  | 110 => ⟨S8x1x8192, .f32⟩
  | 111 => ⟨S8x1x8192, .f32⟩
  | 112 => ⟨S8x1x8192, .f32⟩
  | 113 => ⟨S8x1x8192, .f32⟩
  | 114 => ⟨S8x256x8192, .f32⟩
  | 115 => ⟨S8x256x8192, .f32⟩
  | 116 => ⟨S8x256x8192, .f32⟩
  | 117 => ⟨S8x256x8192, .f32⟩
  | 118 => ⟨S8x256x8192, .f32⟩
  | 119 => ⟨S8x256x8192, .f32⟩
  | 120 => ⟨S8x256x8192, .f32⟩
  | 121 => ⟨S8x256x8192, .f32⟩
  | 122 => ⟨S8x256x8192, .f32⟩
  | 123 => ⟨S8x256x8192, .f32⟩
  | 124 => ⟨S2x2x1x256x1, .f32⟩
  | 125 => ⟨S2x1x256x1, .f32⟩
  | 126 => ⟨S1x1x1x256x1, .f32⟩
  | 127 => ⟨S1x256x1, .f32⟩
  | _ => ⟨S8x256x8192, .f32⟩

abbrev hbmTy0_1 (i : Nat) : BufTy := match i % 128 with
  | 0 => ⟨S8x256x8192, .f32⟩
  | 1 => ⟨S8x256x8192, .f32⟩
  | 2 => ⟨S1x1x1x256x1, .f32⟩
  | 3 => ⟨S1x256x1, .f32⟩
  | 4 => ⟨S8x256x8192, .f32⟩
  | 5 => ⟨S8x256x8192, .f32⟩
  | 6 => ⟨S8x256x8192, .f32⟩
  | 7 => ⟨S1x1x256x1, .f32⟩
  | 8 => ⟨S1x256x1, .f32⟩
  | 9 => ⟨S8x256x8192, .f32⟩
  | 10 => ⟨S8x256x8192, .f32⟩
  | 11 => ⟨S1x1x1x256x1, .f32⟩
  | 12 => ⟨S1x256x1, .f32⟩
  | 13 => ⟨S8x256x8192, .f32⟩
  | 14 => ⟨S8x256x8192, .f32⟩
  | 15 => ⟨S1x1x1x256x1, .f32⟩
  | 16 => ⟨S1x256x1, .f32⟩
  | 17 => ⟨S8x256x8192, .f32⟩
  | 18 => ⟨S8x256x8192, .f32⟩
  | 19 => ⟨S8x256x8192, .f32⟩
  | 20 => ⟨S1x1x256x1, .f32⟩
  | 21 => ⟨S1x256x1, .f32⟩
  | 22 => ⟨S8x256x8192, .f32⟩
  | 23 => ⟨S8x256x8192, .f32⟩
  | _ => ⟨S8x256x8192, .f32⟩

abbrev hbmTy (i : Nat) : BufTy := match i / 128 with
  | 0 => hbmTy0_0 i
  | 1 => hbmTy0_1 i
  | _ => ⟨S8x256x8192, .f32⟩

abbrev bufTy : (tb : Table) → Fin (tcTables nBuf tb) → BufTy
  | .hbm, ⟨i, _⟩ => hbmTy i
  | _, _ => ⟨S8x256x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩
abbrev main_cst_9 : Ref sig .tc := ⟨.hbm, 41, rfl⟩
abbrev main_v27 : Ref sig .tc := ⟨.hbm, 42, rfl⟩
abbrev main_v28 : Ref sig .tc := ⟨.hbm, 43, rfl⟩
abbrev main_cst_10 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_11 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_12 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_13 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_14 : Ref sig .tc := ⟨.hbm, 65, rfl⟩
abbrev main_call0_v0 : Ref sig .tc := ⟨.hbm, 66, rfl⟩
abbrev main_call0_v1 : Ref sig .tc := ⟨.hbm, 67, rfl⟩
abbrev main_v46 : Ref sig .tc := ⟨.hbm, 68, rfl⟩
abbrev main_cst_15 : Ref sig .tc := ⟨.hbm, 69, rfl⟩
abbrev main_v47 : Ref sig .tc := ⟨.hbm, 70, rfl⟩
abbrev main_v48 : Ref sig .tc := ⟨.hbm, 71, rfl⟩
abbrev main_cst_16 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_cst_17 : Ref sig .tc := ⟨.hbm, 76, rfl⟩
abbrev main_v52 : Ref sig .tc := ⟨.hbm, 77, rfl⟩
abbrev main_v53 : Ref sig .tc := ⟨.hbm, 78, rfl⟩
abbrev main_cst_18 : Ref sig .tc := ⟨.hbm, 79, rfl⟩
abbrev main_cst_19 : Ref sig .tc := ⟨.hbm, 80, rfl⟩
abbrev main_call1_v0 : Ref sig .tc := ⟨.hbm, 81, rfl⟩
abbrev main_call1_v1 : Ref sig .tc := ⟨.hbm, 82, rfl⟩
abbrev main_v54 : Ref sig .tc := ⟨.hbm, 83, rfl⟩
abbrev main_cst_20 : Ref sig .tc := ⟨.hbm, 84, rfl⟩
abbrev main_v55 : Ref sig .tc := ⟨.hbm, 85, rfl⟩
abbrev main_v56 : Ref sig .tc := ⟨.hbm, 86, rfl⟩
abbrev main_cst_21 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_cst_22 : Ref sig .tc := ⟨.hbm, 93, rfl⟩
abbrev main_v62 : Ref sig .tc := ⟨.hbm, 94, rfl⟩
abbrev main_v63 : Ref sig .tc := ⟨.hbm, 95, rfl⟩
abbrev main_cst_23 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩

abbrev nD : Nat := 1
abbrev τ : Topo := Topo.v7x

variable {F : FTy → Type} [FloatOps F]
-- ==== Proof.Vocab.lean ====
/-
  The kernel's vocabulary: the vector values one grid point of the kernel computes, named once for every chunk of
  columns, every group of channels and every stored tile.

  A grid point holds one block of 256 channels by 4096 columns of the real part `x0` and the imaginary part `x1`, the
  weights `x2` (four rows of 256) and the biases `x3` (two rows of 256). It walks the columns in 32 chunks of 128, and
  sums over the channels in 4 groups of 64; then it stores 64 tiles of 32 channels by 512 columns of each result.
-/
module

public import proofs.«01_k».proof.Proof.Gen.KernelIdeal.Frame

@[expose] public section

noncomputable section

open Idealize.ShloMosaic Idealize.ShloMosaic.TcCoe

namespace Cert.KernelIdeal.Vocab

open Cert.KernelIdeal Cert.KernelIdeal.Gen

variable {F : FTy → Type} [FloatOps F]

/-- The rectangle of 64 channels (group `g`) by 128 columns (chunk `k`) lies in the block. -/
theorem groupInb (k : Fin 32) (g : Fin 4) :
    ∀ a, (![0, 64 * g.val, 128 * k.val] : Fin 3 → Nat) a + S1x64x128.size a ≤ S1x256x4096.size a := by
  intro a
  fin_cases a
  · show 0 + 1 ≤ 1; omega
  · show 64 * g.val + 64 ≤ 256; omega
  · show 128 * k.val + 128 ≤ 4096; omega

/-- The rectangle of 32 channels (number `g`) by 512 columns (number `j`) lies in the block. -/
theorem tileInb (g j : Fin 8) :
    ∀ a, (![0, 32 * g.val, 512 * j.val] : Fin 3 → Nat) a + S1x32x512.size a ≤ S1x256x4096.size a := by
  intro a
  fin_cases a
  · show 0 + 1 ≤ 1; omega
  · show 32 * g.val + 32 ≤ 256; omega
  · show 512 * j.val + 512 ≤ 4096; omega

/-- The rectangle of tile `(g, j)`: 32 channels by 512 columns. -/
abbrev tileRect (g j : Fin 8) : Rect S1x256x4096 :=
  Rect.unit (s := S1x256x4096) ![0, 32 * g.val, 512 * j.val] S1x32x512.size (tileInb g j)

/-! ## One chunk of 128 columns -/

/-- Group `g` of 64 channels of the 128 columns of chunk `k`. -/
def group (x : Vec F S1x256x4096 .f32) (k : Fin 32) (g : Fin 4) : FVec F S64x128 .f32 :=
  shapeCast S64x128 (View.ld x (Rect.unit (s := S1x256x4096) ![0, 64 * g.val, 128 * k.val] S1x64x128.size (groupInb k g)))
    shapeCasts_S1x64x128_S64x128

/-- The 64 channels of a group as 8 by 8, summed over the first: 8 partial sums of each column. -/
def part (v : FVec F S64x128 .f32) : FVec F S8x128 .f32 :=
  multiReduction .add [0] S8x128 (shapeCast S8x8x128 v shapeCasts_S64x128_S8x8x128) 0x00000000#32 reduces_S8x8x128_S8x128 (.inl rfl) rfl

/-- The mean over the 256 channels of each of 128 columns, from the four groups. -/
def mean (q : Fin 4 → FVec F S64x128 .f32) : FVec F S1x128 .f32 :=
  mulf (shapeCast S1x128 (multiReduction .add [0] S128
      (addf (addf (addf (part (q 0)) (part (q 1))) (part (q 2))) (part (q 3)))
      0x00000000#32 reduces_S8x128_S128 (.inl rfl) rfl) shapeCasts_S128_S1x128)
    (broadcast S1x128 (Scalar.ofBits .f32 0x3B800000#32))

/-- The mean of the product of two blocks over the channels, of each column of chunk `k`. -/
def meanMul (x y : Vec F S1x256x4096 .f32) (k : Fin 32) : FVec F S1x128 .f32 :=
  mean fun g => mulf (group x k g) (group y k g)

/-- The mean of a block over the channels, of each column of chunk `k`. -/
def mu (x : Vec F S1x256x4096 .f32) (k : Fin 32) : FVec F S1x128 .f32 := mean (group x k)

/-- A variance: the mean of the squares less the square of the mean, with epsilon added. -/
def var (x : Vec F S1x256x4096 .f32) (k : Fin 32) : FVec F S1x128 .f32 :=
  addf (subf (meanMul x x k) (mulf (mu x k) (mu x k))) (broadcast S1x128 (Scalar.ofBits .f32 0x358637BD#32))

/-- The covariance of the two parts: the mean of the product less the product of the means. -/
def cov (x0 x1 : Vec F S1x256x4096 .f32) (k : Fin 32) : FVec F S1x128 .f32 :=
  subf (meanMul x0 x1 k) (mulf (mu x0 k) (mu x1 k))

/-- The determinant of the covariance matrix. -/
def det (x0 x1 : Vec F S1x256x4096 .f32) (k : Fin 32) : FVec F S1x128 .f32 :=
  subf (mulf (var x0 k) (var x1 k)) (mulf (cov x0 x1 k) (cov x0 x1 k))

/-- The determinant's square root, as the determinant times its inverse square root. -/
def root (x0 x1 : Vec F S1x256x4096 .f32) (k : Fin 32) : FVec F S1x128 .f32 :=
  mulf (det x0 x1 k) (rsqrt (det x0 x1 k))

/-- The common factor of the whitening matrix: the inverse square root of the determinant times the inverse square root
    of the trace plus twice the root. -/
def fac (x0 x1 : Vec F S1x256x4096 .f32) (k : Fin 32) : FVec F S1x128 .f32 :=
  mulf (rsqrt (det x0 x1 k))
    (rsqrt (addf (addf (var x0 k) (var x1 k)) (mulf (broadcast S1x128 (Scalar.ofBits .f32 0x40000000#32)) (root x0 x1 k))))

/-- The whitening matrix's three entries, -/
def w00 (x0 x1 : Vec F S1x256x4096 .f32) (k : Fin 32) : FVec F S1x128 .f32 :=
  mulf (addf (var x1 k) (root x0 x1 k)) (fac x0 x1 k)
def w01 (x0 x1 : Vec F S1x256x4096 .f32) (k : Fin 32) : FVec F S1x128 .f32 :=
  mulf (subf (broadcast S1x128 (Scalar.ofBits .f32 0x00000000#32)) (cov x0 x1 k)) (fac x0 x1 k)
def w11 (x0 x1 : Vec F S1x256x4096 .f32) (k : Fin 32) : FVec F S1x128 .f32 :=
  mulf (addf (var x0 k) (root x0 x1 k)) (fac x0 x1 k)

/-- and the whitened means. -/
def cr (x0 x1 : Vec F S1x256x4096 .f32) (k : Fin 32) : FVec F S1x128 .f32 :=
  addf (mulf (mu x0 k) (w00 x0 x1 k)) (mulf (mu x1 k) (w01 x0 x1 k))
def ci (x0 x1 : Vec F S1x256x4096 .f32) (k : Fin 32) : FVec F S1x128 .f32 :=
  addf (mulf (mu x0 k) (w01 x0 x1 k)) (mulf (mu x1 k) (w11 x0 x1 k))

/-! ## One tile of 32 channels by 512 columns -/

/-- Four chunks' rows side by side: the row of 512 columns of tile column `j`. -/
def row (f : Fin 32 → FVec F S1x128 .f32) (j : Fin 8) : FVec F S1x512 .f32 :=
  concatenate S1x512 1 [⟨S1x128, f ⟨4 * j.val, by omega⟩⟩, ⟨S1x128, f ⟨4 * j.val + 1, by omega⟩⟩,
    ⟨S1x128, f ⟨4 * j.val + 2, by omega⟩⟩, ⟨S1x128, f ⟨4 * j.val + 3, by omega⟩⟩]
    concatenates_S1x128_S1x128_S1x128_S1x128_S1x512_d1

/-- A row of 512 columns, repeated over the tile's 32 channels. -/
def rows (f : Fin 32 → FVec F S1x128 .f32) (j : Fin 8) : FVec F S32x512 .f32 :=
  broadcastTo S32x512 (row f j) broadcasts_S1x512_S32x512

/-- Tile `(g, j)` of a block. -/
def tile (x : Vec F S1x256x4096 .f32) (g j : Fin 8) : FVec F S32x512 .f32 :=
  shapeCast S32x512 (View.ld x (tileRect g j)) shapeCasts_S1x32x512_S32x512

/-- The whitened real part, -/
def zr (x0 x1 : Vec F S1x256x4096 .f32) (g j : Fin 8) : FVec F S32x512 .f32 :=
  subf (addf (mulf (tile x0 g j) (rows (w00 x0 x1) j)) (mulf (tile x1 g j) (rows (w01 x0 x1) j))) (rows (cr x0 x1) j)

/-- and the whitened imaginary part. -/
def zi (x0 x1 : Vec F S1x256x4096 .f32) (g j : Fin 8) : FVec F S32x512 .f32 :=
  subf (addf (mulf (tile x0 g j) (rows (w01 x0 x1) j)) (mulf (tile x1 g j) (rows (w11 x0 x1) j))) (rows (ci x0 x1) j)

/-- The 32 entries of group `g` of a column of 256, repeated over the tile's 512 columns. -/
def cols (v : FVec F S256x1 .f32) (g : Fin 8) : FVec F S32x512 .f32 :=
  broadcastTo S32x512 (extractStridedSlice S32x1 ![32 * g.val, 0] v (by
    revert g; decide)) broadcasts_S32x1_S32x512

/-- The first of the four rows of weights, as a column of 256; and the three others. -/
def g00 (x2 : Vec F S4x256 .f32) : FVec F S256x1 .f32 := k0_pay7 (View.ld x2 r0_0)
def g01 (x2 : Vec F S4x256 .f32) : FVec F S256x1 .f32 := k0_pay8 (View.ld x2 r0_0)
def g10 (x2 : Vec F S4x256 .f32) : FVec F S256x1 .f32 := k0_pay9 (View.ld x2 r0_0)
def g11 (x2 : Vec F S4x256 .f32) : FVec F S256x1 .f32 := k0_pay10 (View.ld x2 r0_0)
/-- The two rows of biases, as columns of 256. -/
def h0 (x3 : Vec F S2x256 .f32) : FVec F S256x1 .f32 := k0_pay11 (View.ld x3 r0_1)
def h1 (x3 : Vec F S2x256 .f32) : FVec F S256x1 .f32 := k0_pay12 (View.ld x3 r0_1)

/-- What is stored in tile `(g, j)`: the two whitened parts, each times its weight, plus the bias. -/
def out (p q h : FVec F S256x1 .f32) (x0 x1 : Vec F S1x256x4096 .f32) (g j : Fin 8) : FVec F S1x32x512 .f32 :=
  shapeCast S1x32x512 (addf (addf (mulf (zr x0 x1 g j) (cols p g)) (mulf (zi x0 x1 g j) (cols q g))) (cols h g))
    shapeCasts_S32x512_S1x32x512

/-- The tile of the first result, -/
def out4 (x0 x1 : Vec F S1x256x4096 .f32) (x2 : Vec F S4x256 .f32) (x3 : Vec F S2x256 .f32) (g j : Fin 8) : FVec F S1x32x512 .f32 :=
  out (g00 x2) (g10 x2) (h0 x3) x0 x1 g j

/-- and of the second. -/
def out5 (x0 x1 : Vec F S1x256x4096 .f32) (x2 : Vec F S4x256 .f32) (x3 : Vec F S2x256 .f32) (g j : Fin 8) : FVec F S1x32x512 .f32 :=
  out (g01 x2) (g11 x2) (h1 x3) x0 x1 g j

end Cert.KernelIdeal.Vocab
-- ==== Proof.Tiles.lean ====
/-
  The block a grid point leaves in each result is its 64 stored tiles: tile `n` holds channels `32 (n / 8)` to
  `32 (n / 8) + 31` and columns `512 (n % 8)` to `512 (n % 8) + 511`. Stated here against the vocabulary, so that what
  follows speaks of a tile by its number only.
-/
module

public import proofs.«01_k».proof.Proof.Vocab
public import Idealize.ShloMosaic.Lib.Pipeline.Value

@[expose] public section

noncomputable section

open Idealize.ShloMosaic Idealize.ShloMosaic.TcCoe

namespace Cert.KernelIdeal.Tiles

open Cert.KernelIdeal Cert.KernelIdeal.Gen Cert.KernelIdeal.Vocab

variable {F : FTy → Type} [FloatOps F]

/-- The numbers of the tiles, the last stored first. -/
def order : List (Fin 64) :=
  [63, 62, 61, 60, 59, 58, 57, 56, 55, 54, 53, 52, 51, 50, 49, 48, 47, 46, 45, 44, 43, 42, 41, 40, 39, 38,
    37, 36, 35, 34, 33, 32, 31, 30, 29, 28, 27, 26, 25, 24, 23, 22, 21, 20, 19, 18, 17, 16, 15, 14, 13,
    12, 11, 10, 9, 8, 7, 6, 5, 4, 3, 2, 1, 0]

theorem mem_order : ∀ n, n ∈ order := by decide

/-- The tile's place among the channels, -/
abbrev tileRow (n : Fin 64) : Fin 8 := ⟨n.val / 8, by omega⟩
/-- and among the columns. -/
abbrev tileCol (n : Fin 64) : Fin 8 := ⟨n.val % 8, by omega⟩

/-- Tile `n` of a block whose tiles are `f`. -/
def piece (f : Fin 8 → Fin 8 → FVec F S1x32x512 .f32) (n : Fin 64) : View.Piece (Elt F) S1x256x4096 .f32 :=
  ⟨tileRect (tileRow n) (tileCol n), f (tileRow n) (tileCol n)⟩

/-- The block whose tiles are `f`. -/
def block (f : Fin 8 → Fin 8 → FVec F S1x32x512 .f32) : Vec F S1x256x4096 .f32 :=
  View.canon (order.map (piece f))

/-- Tiles that all agree with one function of the block's index make up that function. -/
theorem block_eq (f : Fin 8 → Fin 8 → FVec F S1x32x512 .f32) (G : Vec F S1x256x4096 .f32)
    (h : ∀ (g j : Fin 8) (z : S1x32x512.Idx), f g j z = G ((tileRect g j).emb z)) : block f = G := by
  funext y
  refine View.canon_apply_of_pieces G _ (fun p hp z => ?_) y ?_
  · obtain ⟨n, _, rfl⟩ := List.mem_map.mp hp
    exact h _ _ z
  · have h0 : (y 0).val < 1 := (y 0).isLt
    have h1 : (y 1).val < 256 := (y 1).isLt
    have h2 : (y 2).val < 4096 := (y 2).isLt
    refine ⟨_, List.mem_map.mpr ⟨⟨8 * ((y 1).val / 32) + (y 2).val / 512, by omega⟩, mem_order _, rfl⟩, ?_⟩
    show y ∈ (tileRect _ _).set
    rw [Rect.mem_set_unit]
    intro a
    match a with
    | ⟨0, _⟩ => show 0 ≤ (y 0).val ∧ (y 0).val < 0 + 1; omega
    | ⟨1, _⟩ =>
      show 32 * ((8 * ((y 1).val / 32) + (y 2).val / 512) / 8) ≤ (y 1).val
        ∧ (y 1).val < 32 * ((8 * ((y 1).val / 32) + (y 2).val / 512) / 8) + 32
      omega
    | ⟨2, _⟩ =>
      show 512 * ((8 * ((y 1).val / 32) + (y 2).val / 512) % 8) ≤ (y 2).val
        ∧ (y 2).val < 512 * ((8 * ((y 1).val / 32) + (y 2).val / 512) % 8) + 512
      omega

set_option maxRecDepth 16384 in
set_option maxHeartbeats 40000000 in
/-- The first result's block is made of the tiles `out4`, -/
theorem out0_4_eq (x0 x1 : Vec F S1x256x4096 .f32) (x2 : Vec F S4x256 .f32) (x3 : Vec F S2x256 .f32) :
    out0_4 x0 x1 x2 x3 = block (out4 x0 x1 x2 x3) := rfl

set_option maxRecDepth 16384 in
set_option maxHeartbeats 40000000 in
/-- and the second result's of the tiles `out5`. -/
theorem out0_5_eq (x0 x1 : Vec F S1x256x4096 .f32) (x2 : Vec F S4x256 .f32) (x3 : Vec F S2x256 .f32) :
    out0_5 x0 x1 x2 x3 = block (out5 x0 x1 x2 x3) := rfl

end Cert.KernelIdeal.Tiles
-- ==== Proof.Column.lean ====
/-
  One column of 256 channels, over the extended reals: what the kernel computes of it and what the reference computes of
  it, each written once as a function of the column's real part `X` and imaginary part `Y`. The equation between the two
  is in Whitening.lean.
-/
module

public import Idealize.ShloMosaic.PureOps.Ideal.Laws
public import Idealize.ShloMosaic.Lib.IdealHost

@[expose] public section

noncomputable section

open Idealize.ShloMosaic

namespace Cert.Column

/-! ## The kernel's side -/

/-- The kernel's mean of 256 numbers: the sum times the word for 1/256. -/
def kMean (X : Fin 256 → EReal) : EReal := (∑ j, X j) * Ideal.ofBits .f32 0x3B800000#32

/-- The variance of one part: mean square less squared mean, plus epsilon. -/
def kVar (X : Fin 256 → EReal) : EReal :=
  (kMean fun j => X j * X j) - kMean X * kMean X + Ideal.ofBits .f32 0x358637BD#32

/-- The covariance of the two parts: mean product less product of means. -/
def kCov (X Y : Fin 256 → EReal) : EReal := (kMean fun j => X j * Y j) - kMean X * kMean Y

/-- The determinant of the covariance matrix, -/
def kDet (X Y : Fin 256 → EReal) : EReal := kVar X * kVar Y - kCov X Y * kCov X Y

/-- its square root, -/
def kRoot (X Y : Fin 256 → EReal) : EReal := kDet X Y * Ideal.rsqrt (kDet X Y)

/-- and the factor common to the entries of the whitening matrix. -/
def kFac (X Y : Fin 256 → EReal) : EReal :=
  Ideal.rsqrt (kDet X Y)
    * Ideal.rsqrt (kVar X + kVar Y + Ideal.ofBits .f32 0x40000000#32 * kRoot X Y)

/-- The whitening matrix's entries. -/
def kW00 (X Y : Fin 256 → EReal) : EReal := (kVar Y + kRoot X Y) * kFac X Y
def kW01 (X Y : Fin 256 → EReal) : EReal := (0 - kCov X Y) * kFac X Y
def kW11 (X Y : Fin 256 → EReal) : EReal := (kVar X + kRoot X Y) * kFac X Y

/-- The kernel's whitened real part of the entry `(x, y)`, -/
def kZr (X Y : Fin 256 → EReal) (x y : EReal) : EReal :=
  x * kW00 X Y + y * kW01 X Y - (kMean X * kW00 X Y + kMean Y * kW01 X Y)

/-- and its whitened imaginary part. -/
def kZi (X Y : Fin 256 → EReal) (x y : EReal) : EReal :=
  x * kW01 X Y + y * kW11 X Y - (kMean X * kW01 X Y + kMean Y * kW11 X Y)

/-! ## The reference's side -/

/-- The reference's mean: the sum divided by 256. -/
def rMean (X : Fin 256 → EReal) : EReal := Ideal.div (∑ j, X j) (Ideal.ofBits .f32 0x43800000#32)

/-- An entry with the mean taken off. -/
def rCtr (X : Fin 256 → EReal) (j : Fin 256) : EReal := X j - rMean X

/-- The variance and the covariance of the centred column. -/
def rVar (X : Fin 256 → EReal) : EReal := (rMean fun j => rCtr X j * rCtr X j) + Ideal.ofBits .f32 0x358637BD#32
def rCov (X Y : Fin 256 → EReal) : EReal := rMean fun j => rCtr X j * rCtr Y j

/-- Half the trace, half the difference of the diagonal, and the radius: the eigenvalues are `rMid ∓ rRad`. -/
def rMid (X Y : Fin 256 → EReal) : EReal := Ideal.div (rVar X + rVar Y) (Ideal.ofBits .f32 0x40000000#32)
def rDif (X Y : Fin 256 → EReal) : EReal := Ideal.div (rVar X - rVar Y) (Ideal.ofBits .f32 0x40000000#32)
def rRad (X Y : Fin 256 → EReal) : EReal := Ideal.sqrt (rDif X Y * rDif X Y + rCov X Y * rCov X Y)

/-- The cosine of twice the angle of the eigenvectors, and the eigenvectors' entries. -/
def rCos (X Y : Fin 256 → EReal) : EReal := if rRad X Y = 0 then 1 else Ideal.div (rDif X Y) (rRad X Y)
def rP (X Y : Fin 256 → EReal) : EReal := Ideal.sqrt (Ideal.div (1 + rCos X Y) (Ideal.ofBits .f32 0x40000000#32))
def rQ (X Y : Fin 256 → EReal) : EReal :=
  (if rCov X Y < 0 then Ideal.ofBits .f32 0xBF800000#32 else 1)
    * Ideal.sqrt (Ideal.div (1 - rCos X Y) (Ideal.ofBits .f32 0x40000000#32))

/-- The eigenvalues to the power −1/2. -/
def rK0 (X Y : Fin 256 → EReal) : EReal := Ideal.pow (rMid X Y - rRad X Y) (Ideal.ofBits .f32 0xBF000000#32)
def rK1 (X Y : Fin 256 → EReal) : EReal := Ideal.pow (rMid X Y + rRad X Y) (Ideal.ofBits .f32 0xBF000000#32)

/-- The whitening matrix's entries. -/
def rW00 (X Y : Fin 256 → EReal) : EReal := rQ X Y * rK0 X Y * rQ X Y + rP X Y * rK1 X Y * rP X Y
def rW01 (X Y : Fin 256 → EReal) : EReal := rQ X Y * rK1 X Y * rP X Y - rQ X Y * rK0 X Y * rP X Y
def rW11 (X Y : Fin 256 → EReal) : EReal := rP X Y * rK0 X Y * rP X Y + rQ X Y * rK1 X Y * rQ X Y

/-- The reference's whitened parts of entry `j`. -/
def rZr (X Y : Fin 256 → EReal) (j : Fin 256) : EReal := rCtr X j * rW00 X Y + rCtr Y j * rW01 X Y
def rZi (X Y : Fin 256 → EReal) (j : Fin 256) : EReal := rCtr X j * rW01 X Y + rCtr Y j * rW11 X Y

/-! ## The constants -/

theorem word_inv256 : Ideal.ofBits .f32 0x3B800000#32 = ((1 / 256 : ℝ) : EReal) := by
  simp [Ideal.ofBits, Ideal.ieee, -EReal.coe_mul]; norm_num

theorem word_256 : Ideal.ofBits .f32 0x43800000#32 = ((256 : ℝ) : EReal) := by
  simp [Ideal.ofBits, Ideal.ieee, -EReal.coe_mul]; norm_num

theorem word_two : Ideal.ofBits .f32 0x40000000#32 = ((2 : ℝ) : EReal) := by
  simp [Ideal.ofBits, Ideal.ieee, -EReal.coe_mul]; norm_num

theorem word_neg_one : Ideal.ofBits .f32 0xBF800000#32 = ((-1 : ℝ) : EReal) := by
  simp [Ideal.ofBits, Ideal.ieee, -EReal.coe_mul]; norm_num

theorem word_neg_half : Ideal.ofBits .f32 0xBF000000#32 = ((-(1 / 2) : ℝ) : EReal) := by
  simp [Ideal.ofBits, Ideal.ieee, -EReal.coe_mul]; norm_num

/-- Epsilon's word is a positive real (which one does not matter: both sides carry the same word). -/
theorem word_eps : ∃ e : ℝ, 0 < e ∧ Ideal.ofBits .f32 0x358637BD#32 = (e : EReal) := by
  refine ⟨8796093 * (2 : ℝ) ^ (-43 : ℤ), by positivity, ?_⟩
  simp [Ideal.ofBits, Ideal.ieee, -EReal.coe_mul]

end Cert.Column
-- ==== Proof.Block.lean ====
/-
  What one grid point computes, read at an index over the extended reals: each whitening quantity of a chunk is the
  column's (Column.lean), and the tiles make up one function of the block's channel and column.
-/
module

public import proofs.«01_k».proof.Proof.Tiles
public import proofs.«01_k».proof.Proof.Column
public import Idealize.ShloMosaic.Lib.Pointwise

@[expose] public section

set_option maxRecDepth 16384

noncomputable section

open Idealize.ShloMosaic Idealize.ShloMosaic.TcCoe

namespace Cert.KernelIdeal.Block

open Cert.KernelIdeal Cert.KernelIdeal.Gen Cert.KernelIdeal.Vocab Cert.Column

variable (x x0 x1 : Vec Ideal S1x256x4096 .f32)

/-- Column `n` of a block: its 256 channels. -/
def col (n : Fin 4096) (j : Fin 256) : EReal := x (ix3 0 j n)

/-- Column `s` of chunk `k`. -/
abbrev chunkCol (k : Fin 32) (s : Fin 128) : Fin 4096 := ⟨128 * k.val + s.val, by omega⟩
/-- Channel `i` of group `g` of 64. -/
abbrev groupChan (g : Fin 4) (i : Fin 64) : Fin 256 := ⟨64 * g.val + i.val, by omega⟩
/-- Column `s` of tile column `j`. -/
abbrev tileColumn (j : Fin 8) (s : Fin 512) : Fin 4096 := ⟨512 * j.val + s.val, by omega⟩
/-- Channel `i` of tile row `g`. -/
abbrev tileChan (g : Fin 8) (i : Fin 32) : Fin 256 := ⟨32 * g.val + i.val, by omega⟩

/-! ## Loads -/

/-- A group of channels flattened, at an index. -/
theorem flat_group (v : FVec Ideal S1x64x128 .f32) (i : Fin 64) (s : Fin 128) :
    (shapeCast S64x128 v shapeCasts_S1x64x128_S64x128 (ix2 i s) : EReal) = v (ix3 0 i s) := by
  pointwise []

theorem group_at (k : Fin 32) (g : Fin 4) (i : Fin 64) (s : Fin 128) :
    (group x k g (ix2 i s) : EReal) = col x (chunkCol k s) (groupChan g i) := by
  unfold group col
  rw [flat_group]
  show x _ = x _
  congr 1
  funext a
  apply Fin.ext
  match a with
  | ⟨0, _⟩ => rfl
  | ⟨1, _⟩ => show 64 * g.val + 1 * i.val = _; simp
  | ⟨2, _⟩ => show 128 * k.val + 1 * s.val = _; simp

/-- A tile flattened, at an index. -/
theorem flat_tile (v : FVec Ideal S1x32x512 .f32) (i : Fin 32) (s : Fin 512) :
    (shapeCast S32x512 v shapeCasts_S1x32x512_S32x512 (ix2 i s) : EReal) = v (ix3 0 i s) := by
  pointwise []

theorem tile_at (g j : Fin 8) (i : Fin 32) (s : Fin 512) :
    (tile x g j (ix2 i s) : EReal) = col x (tileColumn j s) (tileChan g i) := by
  unfold tile col
  rw [flat_tile]
  show x _ = x _
  congr 1
  funext a
  apply Fin.ext
  match a with
  | ⟨0, _⟩ => rfl
  | ⟨1, _⟩ => show 32 * g.val + 1 * i.val = _; simp
  | ⟨2, _⟩ => show 512 * j.val + 1 * s.val = _; simp

/-! ## The mean over the channels -/

/-- The sum over 256 channels, taken as the kernel takes it: over the 8 positions within a run of 8, the 4 groups and the
    8 runs of each group. -/
theorem sum_channels (X : Fin 256 → EReal) :
    ∑ a : Fin 8, ∑ g : Fin 4, ∑ b : Fin 8, X (groupChan g ⟨b.val * 8 + a.val, by omega⟩) = ∑ j, X j := by
  have e : Function.Bijective fun p : Fin 8 × Fin 4 × Fin 8 => groupChan p.2.1 ⟨p.2.2.val * 8 + p.1.val, by omega⟩ := by
    constructor
    · rintro ⟨a, g, b⟩ ⟨a', g', b'⟩ h
      have h' : 64 * g.val + (b.val * 8 + a.val) = 64 * g'.val + (b'.val * 8 + a'.val) := congrArg Fin.val h
      simp only [Prod.mk.injEq, Fin.ext_iff]
      omega
    · intro j
      refine ⟨(⟨j.val % 8, by omega⟩, ⟨j.val / 64, by omega⟩, ⟨j.val % 64 / 8, by omega⟩), Fin.ext ?_⟩
      show 64 * (j.val / 64) + (j.val % 64 / 8 * 8 + j.val % 8) = j.val
      omega
  rw [← Fintype.sum_bijective _ e (fun p => X (groupChan p.2.1 ⟨p.2.2.val * 8 + p.1.val, by omega⟩)) X fun _ => rfl]
  simp only [Fintype.sum_prod_type]

theorem mean_at (q : Fin 4 → FVec Ideal S64x128 .f32) (s : Fin 128) (X : Fin 256 → EReal)
    (h : ∀ g i, (q g (ix2 i s) : EReal) = X (groupChan g i)) : (mean q (ix2 0 s) : EReal) = kMean X := by
  unfold kMean
  rw [← sum_channels]
  pointwise [mean, part]
  simp only [h, Fin.sum_univ_four]

theorem mu_at (k : Fin 32) (s : Fin 128) : (mu x k (ix2 0 s) : EReal) = kMean (col x (chunkCol k s)) :=
  mean_at _ _ _ fun g i => group_at x k g i s

theorem meanMul_at (k : Fin 32) (s : Fin 128) : (meanMul x0 x1 k (ix2 0 s) : EReal)
    = kMean fun j => col x0 (chunkCol k s) j * col x1 (chunkCol k s) j := by
  refine mean_at _ _ _ fun g i => ?_
  rw [← group_at, ← group_at]
  rfl

/-! ## The whitening matrix of a column -/

section

variable (k : Fin 32) (s : Fin 128)

theorem var_at : (var x k (ix2 0 s) : EReal) = kVar (col x (chunkCol k s)) := by
  unfold kVar
  rw [← mu_at, ← meanMul_at]
  rfl

theorem cov_at : (cov x0 x1 k (ix2 0 s) : EReal) = kCov (col x0 (chunkCol k s)) (col x1 (chunkCol k s)) := by
  unfold kCov
  rw [← mu_at, ← mu_at, ← meanMul_at]
  rfl

theorem det_at : (det x0 x1 k (ix2 0 s) : EReal) = kDet (col x0 (chunkCol k s)) (col x1 (chunkCol k s)) := by
  unfold kDet
  rw [← var_at, ← var_at, ← cov_at]
  rfl

theorem root_at : (root x0 x1 k (ix2 0 s) : EReal) = kRoot (col x0 (chunkCol k s)) (col x1 (chunkCol k s)) := by
  unfold kRoot
  rw [← det_at]
  rfl

theorem fac_at : (fac x0 x1 k (ix2 0 s) : EReal) = kFac (col x0 (chunkCol k s)) (col x1 (chunkCol k s)) := by
  unfold kFac
  rw [← det_at, ← root_at, ← var_at, ← var_at]
  rfl

theorem w00_at : (w00 x0 x1 k (ix2 0 s) : EReal) = kW00 (col x0 (chunkCol k s)) (col x1 (chunkCol k s)) := by
  unfold kW00
  rw [← fac_at, ← root_at, ← var_at]
  rfl

theorem w01_at : (w01 x0 x1 k (ix2 0 s) : EReal) = kW01 (col x0 (chunkCol k s)) (col x1 (chunkCol k s)) := by
  unfold kW01
  rw [← fac_at, ← cov_at, ← Ideal.ofBits_zero_f32]
  rfl

theorem w11_at : (w11 x0 x1 k (ix2 0 s) : EReal) = kW11 (col x0 (chunkCol k s)) (col x1 (chunkCol k s)) := by
  unfold kW11
  rw [← fac_at, ← root_at, ← var_at]
  rfl

end

/-! ## A tile -/

/-- Rows of chunks side by side, at an index: if each chunk's row is `f` of its columns, so is the tile's. -/
theorem rows_at (u : Fin 32 → FVec Ideal S1x128 .f32) (f : Fin 4096 → EReal)
    (h : ∀ k s, (u k (ix2 0 s) : EReal) = f (chunkCol k s)) (j : Fin 8) (i : Fin 32) (s : Fin 512) :
    (rows u j (ix2 i s) : EReal) = f (tileColumn j s) := by
  pointwise [rows, row]
  split_ifs <;> (rw [h]; congr 1; apply Fin.ext; dsimp only [chunkCol, tileColumn]; omega)

variable (g j : Fin 8) (i : Fin 32) (s : Fin 512)

theorem zr_at : (zr x0 x1 g j (ix2 i s) : EReal) = kZr (col x0 (tileColumn j s)) (col x1 (tileColumn j s))
    (col x0 (tileColumn j s) (tileChan g i)) (col x1 (tileColumn j s) (tileChan g i)) := by
  show (tile x0 g j (ix2 i s) * rows (w00 x0 x1) j (ix2 i s) + tile x1 g j (ix2 i s) * rows (w01 x0 x1) j (ix2 i s)
    - rows (cr x0 x1) j (ix2 i s) : EReal) = _
  rw [tile_at, tile_at, rows_at _ (fun n => kW00 (col x0 n) (col x1 n)) (w00_at x0 x1),
    rows_at _ (fun n => kW01 (col x0 n) (col x1 n)) (w01_at x0 x1),
    rows_at _ (fun n => kMean (col x0 n) * kW00 (col x0 n) (col x1 n) + kMean (col x1 n) * kW01 (col x0 n) (col x1 n))
      fun k s => by rw [← mu_at, ← mu_at, ← w00_at, ← w01_at]; rfl]
  rfl

theorem zi_at : (zi x0 x1 g j (ix2 i s) : EReal) = kZi (col x0 (tileColumn j s)) (col x1 (tileColumn j s))
    (col x0 (tileColumn j s) (tileChan g i)) (col x1 (tileColumn j s) (tileChan g i)) := by
  show (tile x0 g j (ix2 i s) * rows (w01 x0 x1) j (ix2 i s) + tile x1 g j (ix2 i s) * rows (w11 x0 x1) j (ix2 i s)
    - rows (ci x0 x1) j (ix2 i s) : EReal) = _
  rw [tile_at, tile_at, rows_at _ (fun n => kW01 (col x0 n) (col x1 n)) (w01_at x0 x1),
    rows_at _ (fun n => kW11 (col x0 n) (col x1 n)) (w11_at x0 x1),
    rows_at _ (fun n => kMean (col x0 n) * kW01 (col x0 n) (col x1 n) + kMean (col x1 n) * kW11 (col x0 n) (col x1 n))
      fun k s => by rw [← mu_at, ← mu_at, ← w01_at, ← w11_at]; rfl]
  rfl

theorem cols_at (v : FVec Ideal S256x1 .f32) : (cols v g (ix2 i s) : EReal) = v (ix2 (tileChan g i) 0) := by
  pointwise [cols]

/-! ## The two blocks a grid point leaves -/

/-- A result's block with the weights `p`, `q` and the bias `h` of each channel: at channel `c` and column `n`, the two
    whitened parts weighted, plus the bias. -/
def mix (p q h : Fin 256 → EReal) : Vec Ideal S1x256x4096 .f32 := fun y =>
  (kZr (col x0 (y 2)) (col x1 (y 2)) (col x0 (y 2) (y 1)) (col x1 (y 2) (y 1)) * p (y 1)
    + kZi (col x0 (y 2)) (col x1 (y 2)) (col x0 (y 2) (y 1)) (col x1 (y 2) (y 1)) * q (y 1) + h (y 1) : EReal)

/-- A tile, at an index. -/
theorem out_at (p q h : FVec Ideal S256x1 .f32) : (out p q h x0 x1 g j (ix3 0 i s) : EReal)
    = kZr (col x0 (tileColumn j s)) (col x1 (tileColumn j s)) (col x0 (tileColumn j s) (tileChan g i))
          (col x1 (tileColumn j s) (tileChan g i)) * p (ix2 (tileChan g i) 0)
      + kZi (col x0 (tileColumn j s)) (col x1 (tileColumn j s)) (col x0 (tileColumn j s) (tileChan g i))
          (col x1 (tileColumn j s) (tileChan g i)) * q (ix2 (tileChan g i) 0)
      + h (ix2 (tileChan g i) 0) := by
  rw [← zr_at, ← zi_at, ← cols_at g i s p, ← cols_at g i s q, ← cols_at g i s h]
  pointwise [out]

/-- The tiles `out p q h` make up that block. -/
theorem block_out (p q h : FVec Ideal S256x1 .f32) :
    Tiles.block (out p q h x0 x1) = mix x0 x1 (fun c => p (ix2 c 0)) (fun c => q (ix2 c 0)) (fun c => h (ix2 c 0)) := by
  refine Tiles.block_eq _ _ fun g j z => ?_
  have e1 : (tileRect g j).emb z 1 = tileChan g (z 1) := Fin.ext (by
    show 32 * g.val + 1 * (z 1).val = 32 * g.val + (z 1).val; omega)
  have e2 : (tileRect g j).emb z 2 = tileColumn j (z 2) := Fin.ext (by
    show 512 * j.val + 1 * (z 2).val = 512 * j.val + (z 2).val; omega)
  have hz : z = ix3 0 (z 1) (z 2) := by
    funext a
    match a with
    | ⟨0, _⟩ => exact Fin.ext (by have h : (z 0).val < 1 := (z 0).isLt; show (z 0).val = 0; omega)
    | ⟨1, _⟩ => rfl
    | ⟨2, _⟩ => rfl
  unfold mix
  rw [e1, e2]
  exact (congrArg (out p q h x0 x1 g j) hz).trans (out_at x0 x1 g j (z 1) (z 2) p q h)

/-- Row `r` of the weights, at channel `c`. -/
def wt (x2 : Vec Ideal S4x256 .f32) (r : Fin 4) (c : Fin 256) : EReal := x2 (ix2 r c)
/-- Row `r` of the biases. -/
def bs (x3 : Vec Ideal S2x256 .f32) (r : Fin 2) (c : Fin 256) : EReal := x3 (ix2 r c)

section

variable (x2 : Vec Ideal S4x256 .f32) (x3 : Vec Ideal S2x256 .f32) (c : Fin 256)

theorem g00_at : (g00 x2 (ix2 c 0) : EReal) = wt x2 0 c := by pointwise [g00, k0_pay7, k0_pay5, r0_0, wt]
theorem g01_at : (g01 x2 (ix2 c 0) : EReal) = wt x2 1 c := by pointwise [g01, k0_pay8, k0_pay5, r0_0, wt]
theorem g10_at : (g10 x2 (ix2 c 0) : EReal) = wt x2 2 c := by pointwise [g10, k0_pay9, k0_pay5, r0_0, wt]
theorem g11_at : (g11 x2 (ix2 c 0) : EReal) = wt x2 3 c := by pointwise [g11, k0_pay10, k0_pay5, r0_0, wt]
theorem h0_at : (h0 x3 (ix2 c 0) : EReal) = bs x3 0 c := by pointwise [h0, k0_pay11, k0_pay6, r0_1, bs]
theorem h1_at : (h1 x3 (ix2 c 0) : EReal) = bs x3 1 c := by pointwise [h1, k0_pay12, k0_pay6, r0_1, bs]

/-- **The first result's block**, -/
theorem out0_4_mix : out0_4 x0 x1 x2 x3 = mix x0 x1 (wt x2 0) (wt x2 2) (bs x3 0) := by
  rw [Tiles.out0_4_eq]
  refine (block_out x0 x1 _ _ _).trans ?_
  simp only [g00_at, g10_at, h0_at]

/-- **and the second's.** -/
theorem out0_5_mix : out0_5 x0 x1 x2 x3 = mix x0 x1 (wt x2 1) (wt x2 3) (bs x3 1) := by
  rw [Tiles.out0_5_eq]
  refine (block_out x0 x1 _ _ _).trans ?_
  simp only [g01_at, g11_at, h1_at]

end

end Cert.KernelIdeal.Block
-- ==== Proof.Whole.lean ====
/-
  What the kernel's two result arrays hold after the run: the 16 grid points' blocks tile each array, every point writes
  its block of one function of the argument arrays, so that function is what each array ends with.
-/
module

public import proofs.«01_k».proof.Proof.Block
public import proofs.«01_k».proof.Proof.Gen.KernelIdeal.Value
public import Idealize.ShloMosaic.Lib.Pipeline.ValueKit

@[expose] public section

set_option maxRecDepth 16384

noncomputable section

open Idealize.ShloMosaic Idealize.ShloMosaic.TcCoe

namespace Cert.KernelIdeal.Whole

open Cert.KernelIdeal Cert.KernelIdeal.Gen Cert.KernelIdeal.Block Cert.Column

/-! ## The function -/

/-- Column `t` of batch entry `b` of an argument array: its 256 channels. -/
def gcol (X : Vec Ideal S8x256x8192 .f32) (b : Fin 8) (t : Fin 8192) (j : Fin 256) : EReal := X (ix3 b j t)

/-- A result array from the two parts, the weights `p`, `q` and the bias `h` of each channel. -/
def mixed (X Y : Vec Ideal S8x256x8192 .f32) (p q h : Fin 256 → EReal) : Vec Ideal S8x256x8192 .f32 := fun i =>
  (kZr (gcol X (i 0) (i 2)) (gcol Y (i 0) (i 2)) (gcol X (i 0) (i 2) (i 1)) (gcol Y (i 0) (i 2) (i 1)) * p (i 1)
    + kZi (gcol X (i 0) (i 2)) (gcol Y (i 0) (i 2)) (gcol X (i 0) (i 2) (i 1)) (gcol Y (i 0) (i 2) (i 1)) * q (i 1)
    + h (i 1) : EReal)

/-- The weight from part `a` to part `b`, of each channel; -/
def weight (W : Vec Ideal S2x2x256 .f32) (a b : Fin 2) (j : Fin 256) : EReal := W (ix3 a b j)
/-- the bias of part `a`. -/
def bias (H : Vec Ideal S2x256 .f32) (a : Fin 2) (j : Fin 256) : EReal := H (ix2 a j)

/-- The weights' array laid out as four rows, at an index: row `2 a + b` is the weight from `a` to `b`. -/
theorem rows_weight (W : Vec Ideal S2x2x256 .f32) (a b : Fin 2) (j : Fin 256) :
    (shapeCast S4x256 W shapeCasts_S2x2x256_S4x256 (ix2 (⟨2 * a.val + b.val, by omega⟩ : Fin 4) j) : EReal)
      = weight W a b j := by
  unfold weight
  fin_cases a <;> fin_cases b <;> pointwise []

/-! ## A grid point's blocks -/

variable (m : (ℓ : Loc nD τ sig) → Buf (Elt Ideal) ℓ) (c : Dev nD)

/-- The argument arrays as launched. -/
abbrev argX : Vec Ideal S8x256x8192 .f32 := m ((c : Thread nD τ).loc main_arg0)
abbrev argY : Vec Ideal S8x256x8192 .f32 := m ((c : Thread nD τ).loc main_arg1)
abbrev argW : Vec Ideal S2x2x256 .f32 := m ((c : Thread nD τ).loc main_arg2)
abbrev argH : Vec Ideal S2x256 .f32 := m ((c : Thread nD τ).loc main_arg3)

/-- Point `t`'s batch entry, -/
def pb (t : Fin cfg0.N) : Fin 8 := grid0.coords t 0
/-- and its half of the columns. -/
def ph (t : Fin cfg0.N) : Fin 2 := grid0.coords t 1
/-- Column `n` of that half. -/
def pcol (t : Fin cfg0.N) (n : Fin 4096) : Fin 8192 := ⟨(ph t).val * 4096 + n.val, by omega⟩

theorem index0 : ∀ t : Fin cfg0.N, win0_0.index t = ![(pb t).val, 0, (ph t).val] := by decide +kernel
theorem index1 : ∀ t : Fin cfg0.N, win0_1.index t = ![(pb t).val, 0, (ph t).val] := by decide +kernel
theorem index2 : ∀ t : Fin cfg0.N, win0_2.index t = ![0, 0] := by decide +kernel
theorem index3 : ∀ t : Fin cfg0.N, win0_3.index t = ![0, 0] := by decide +kernel
theorem index4 : ∀ t : Fin cfg0.N, win0_4.index t = ![(pb t).val, 0, (ph t).val] := by decide +kernel
theorem index5 : ∀ t : Fin cfg0.N, win0_5.index t = ![(pb t).val, 0, (ph t).val] := by decide +kernel

/-- Where an index of a point's block lies in the array: one statement per window. -/
theorem emb0 (t : Fin cfg0.N) (j : Fin 256) (n : Fin 4096) :
    (win0_0.blk t).view.emb (ix3 0 j n) = ix3 (pb t) j (pcol t n) := by
  funext a
  match a with
  | ⟨0, _⟩ => apply Fin.ext; blk_simp [index0]; simp
  | ⟨1, _⟩ => apply Fin.ext; blk_simp [index0]
  | ⟨2, _⟩ => apply Fin.ext; blk_simp [index0]; simp [pcol]

theorem emb1 (t : Fin cfg0.N) (j : Fin 256) (n : Fin 4096) :
    (win0_1.blk t).view.emb (ix3 0 j n) = ix3 (pb t) j (pcol t n) := by
  funext a
  match a with
  | ⟨0, _⟩ => apply Fin.ext; blk_simp [index1]; simp
  | ⟨1, _⟩ => apply Fin.ext; blk_simp [index1]
  | ⟨2, _⟩ => apply Fin.ext; blk_simp [index1]; simp [pcol]

theorem emb2 (t : Fin cfg0.N) (r : Fin 4) (j : Fin 256) : (win0_2.blk t).view.emb (ix2 r j) = ix2 r j := by
  funext a
  match a with
  | ⟨0, _⟩ => apply Fin.ext; blk_simp [index2]
  | ⟨1, _⟩ => apply Fin.ext; blk_simp [index2]

theorem emb3 (t : Fin cfg0.N) (r : Fin 2) (j : Fin 256) : (win0_3.blk t).view.emb (ix2 r j) = ix2 r j := by
  funext a
  match a with
  | ⟨0, _⟩ => apply Fin.ext; blk_simp [index3]
  | ⟨1, _⟩ => apply Fin.ext; blk_simp [index3]

theorem emb4 (t : Fin cfg0.N) (j : Fin 256) (n : Fin 4096) :
    (win0_4.blk t).view.emb (ix3 0 j n) = ix3 (pb t) j (pcol t n) := by
  funext a
  match a with
  | ⟨0, _⟩ => apply Fin.ext; blk_simp [index4]; simp
  | ⟨1, _⟩ => apply Fin.ext; blk_simp [index4]
  | ⟨2, _⟩ => apply Fin.ext; blk_simp [index4]; simp [pcol]

theorem emb5 (t : Fin cfg0.N) (j : Fin 256) (n : Fin 4096) :
    (win0_5.blk t).view.emb (ix3 0 j n) = ix3 (pb t) j (pcol t n) := by
  funext a
  match a with
  | ⟨0, _⟩ => apply Fin.ext; blk_simp [index5]; simp
  | ⟨1, _⟩ => apply Fin.ext; blk_simp [index5]
  | ⟨2, _⟩ => apply Fin.ext; blk_simp [index5]; simp [pcol]

/-- The columns of a point's blocks are columns of the argument arrays; -/
theorem col0 (t : Fin cfg0.N) (n : Fin 4096) : col (iblk m c 0 t) n = gcol (argX m c) (pb t) (pcol t n) := by
  funext j
  show V m c main_arg0 ((win0_0.blk t).view.emb (ix3 0 j n)) = _
  rw [emb0, V_main_arg0]
  rfl

theorem col1 (t : Fin cfg0.N) (n : Fin 4096) : col (iblk m c 1 t) n = gcol (argY m c) (pb t) (pcol t n) := by
  funext j
  show V m c main_arg1 ((win0_1.blk t).view.emb (ix3 0 j n)) = _
  rw [emb1, V_main_arg1]
  rfl

/-- the rows of weights are the weights' array laid out as four rows; -/
theorem rowsW : V m c main_call0_v0 = shapeCast S4x256 (argW m c) shapeCasts_S2x2x256_S4x256 := by
  simp only [V, hostOps0, StableHlo.after_cons, StableHlo.after_nil]
  rw [StableHlo.reshape_result]
  rfl

theorem weights_at (t : Fin cfg0.N) (a b : Fin 2) :
    wt (iblk m c 2 t) ⟨2 * a.val + b.val, by omega⟩ = weight (argW m c) a b := by
  funext j
  rw [← rows_weight, ← rowsW]
  show V m c main_call0_v0 ((win0_2.blk t).view.emb (ix2 _ j)) = _
  rw [emb2]

/-- and the biases are the biases' array. -/
theorem biases_at (t : Fin cfg0.N) (a : Fin 2) : bs (iblk m c 3 t) a = bias (argH m c) a := by
  funext j
  show V m c main_arg3 ((win0_3.blk t).view.emb (ix2 a j)) = _
  rw [emb3, V_main_arg3]
  rfl

/-- So a block mixed from the point's blocks is the point's block of the mixed array. -/
theorem mix_at (t : Fin cfg0.N) (p q h : Fin 256 → EReal) (j : Fin 256) (n : Fin 4096) :
    mix (iblk m c 0 t) (iblk m c 1 t) p q h (ix3 0 j n)
      = mixed (argX m c) (argY m c) p q h (ix3 (pb t) j (pcol t n)) := by
  show (kZr (col (iblk m c 0 t) n) (col (iblk m c 1 t) n) (col (iblk m c 0 t) n j) (col (iblk m c 1 t) n j) * p j
    + kZi (col (iblk m c 0 t) n) (col (iblk m c 1 t) n) (col (iblk m c 0 t) n j) (col (iblk m c 1 t) n j) * q j
    + h j : EReal) = _
  rw [col0, col1]
  rfl

/-- An index of a block by its coordinates. -/
theorem block_idx (y : S1x256x4096.Idx) : ∃ (j : Fin 256) (n : Fin 4096), y = ix3 0 j n := by
  refine ⟨y 1, y 2, ?_⟩
  funext a
  match a with
  | ⟨0, _⟩ => exact Fin.ext (by have h : (y 0).val < 1 := (y 0).isLt; show (y 0).val = 0; omega)
  | ⟨1, _⟩ => rfl
  | ⟨2, _⟩ => rfl

/-! ## The arrays -/

/-- **The first result**: each part weighted by its weight to the real part, plus the real part's bias; -/
def result0 : Vec Ideal S8x256x8192 .f32 :=
  mixed (argX m c) (argY m c) (weight (argW m c) 0 0) (weight (argW m c) 1 0) (bias (argH m c) 0)

/-- **the second**: the same to the imaginary part. -/
def result1 : Vec Ideal S8x256x8192 .f32 :=
  mixed (argX m c) (argY m c) (weight (argW m c) 0 1) (weight (argW m c) 1 1) (bias (argH m c) 1)

theorem final4 : (dats m 0 c).arrAt 4 cfg0.N = result0 m c := by
  refine (dats m 0 c).arrAt_eq_of_covers 4 _ (by decide +kernel) fun t hf y => ?_
  blk_simp
  rw [after0_4, out0_4_mix]
  obtain ⟨j, n, rfl⟩ := block_idx y
  rw [emb4]
  exact (mix_at m c t _ _ _ j n).trans (by
    unfold result0
    rw [← weights_at m c t 0 0, ← weights_at m c t 1 0, ← biases_at m c t 0]
    rfl)

theorem final5 : (dats m 0 c).arrAt 5 cfg0.N = result1 m c := by
  refine (dats m 0 c).arrAt_eq_of_covers 5 _ (by decide +kernel) fun t hf y => ?_
  blk_simp
  rw [after0_5, out0_5_mix]
  obtain ⟨j, n, rfl⟩ := block_idx y
  rw [emb5]
  exact (mix_at m c t _ _ _ j n).trans (by
    unfold result1
    rw [← weights_at m c t 0 1, ← weights_at m c t 1 1, ← biases_at m c t 1]
    rfl)

end Cert.KernelIdeal.Whole
-- ==== Proof.Reference.lean ====
/-
  What the reference computes, read at an index over the extended reals: each whitening quantity is the column's
  (Column.lean), and each result is the two whitened parts weighted, plus the bias.
-/
module

public import proofs.«01_k».proof.Proof.Gen.ReferenceIdeal.Run
public import proofs.«01_k».proof.Proof.Column
public import Idealize.ShloMosaic.Lib.Pointwise

@[expose] public section

set_option maxRecDepth 16384

noncomputable section

open Idealize.ShloMosaic Idealize.ShloMosaic.TcCoe Idealize.ShloMosaic.StableHlo

namespace Cert.ReferenceIdeal.Read

open Cert.ReferenceIdeal Cert.ReferenceIdeal.Gen Cert.ReferenceIdeal.Value Cert.Column

variable (V : Valuation τ sig (Elt Ideal))

/-- The argument arrays. -/
abbrev argX : Vec Ideal S8x256x8192 .f32 := V (Proc.devRef .tc main_arg0)
abbrev argY : Vec Ideal S8x256x8192 .f32 := V (Proc.devRef .tc main_arg1)
abbrev argW : Vec Ideal S2x2x256 .f32 := V (Proc.devRef .tc main_arg2)
abbrev argH : Vec Ideal S2x256 .f32 := V (Proc.devRef .tc main_arg3)

/-- Column `t` of batch entry `b` of an argument array: its 256 channels. -/
def gcol (X : Vec Ideal S8x256x8192 .f32) (b : Fin 8) (t : Fin 8192) (j : Fin 256) : EReal := X (ix3 b j t)

/-- The column's real part and imaginary part. -/
abbrev cX (b : Fin 8) (t : Fin 8192) : Fin 256 → EReal := gcol (argX V) b t
abbrev cY (b : Fin 8) (t : Fin 8192) : Fin 256 → EReal := gcol (argY V) b t

variable (b : Fin 8) (j : Fin 256) (t : Fin 8192)

theorem ctrX_at : (res_main_v5 V (ix3 b j t) : EReal) = rCtr (cX V b t) j := by
  pointwise [res_main_v5]
  rfl

theorem ctrY_at : (res_main_v11 V (ix3 b j t) : EReal) = rCtr (cY V b t) j := by
  pointwise [res_main_v11]
  rfl

theorem varX_at : (res_main_v18 V (ix3 b 0 t) : EReal) = rVar (cX V b t) := by
  unfold rVar rMean
  simp only [← ctrX_at]
  pointwise [res_main_v18]

theorem varY_at : (res_main_v30 V (ix3 b 0 t) : EReal) = rVar (cY V b t) := by
  unfold rVar rMean
  simp only [← ctrY_at]
  pointwise [res_main_v30]

theorem cov_at : (res_main_v23 V (ix3 b 0 t) : EReal) = rCov (cX V b t) (cY V b t) := by
  unfold rCov rMean
  simp only [← ctrX_at, ← ctrY_at]
  pointwise [res_main_v23]

theorem mid_at : (res_main_v33 V (ix3 b 0 t) : EReal) = rMid (cX V b t) (cY V b t) := by
  unfold rMid
  rw [← varX_at, ← varY_at]
  pointwise [res_main_v33]

theorem dif_at : (res_main_v36 V (ix3 b 0 t) : EReal) = rDif (cX V b t) (cY V b t) := by
  unfold rDif
  rw [← varX_at, ← varY_at]
  pointwise [res_main_v36]

theorem rad_at : (res_main_v40 V (ix3 b 0 t) : EReal) = rRad (cX V b t) (cY V b t) := by
  unfold rRad
  rw [← dif_at, ← cov_at]
  pointwise [res_main_v40]

theorem cos_at : (res_main_v46 V (ix3 b 0 t) : EReal) = rCos (cX V b t) (cY V b t) := by
  unfold rCos
  rw [← dif_at, ← rad_at]
  pointwise [res_main_v46, id]

theorem p_at : (res_main_v51 V (ix3 b 0 t) : EReal) = rP (cX V b t) (cY V b t) := by
  unfold rP
  rw [← cos_at]
  pointwise [res_main_v51]

theorem q_at : (res_main_v61 V (ix3 b 0 t) : EReal) = rQ (cX V b t) (cY V b t) := by
  unfold rQ
  rw [← cos_at, ← cov_at]
  pointwise [res_main_v61, id]

theorem k0_at : (res_main_v63 V (ix3 b 0 t) : EReal) = rK0 (cX V b t) (cY V b t) := by
  unfold rK0
  rw [← mid_at, ← rad_at]
  pointwise [res_main_v63]

theorem k1_at : (res_main_v65 V (ix3 b 0 t) : EReal) = rK1 (cX V b t) (cY V b t) := by
  unfold rK1
  rw [← mid_at, ← rad_at]
  pointwise [res_main_v65]

theorem w01_at : (res_main_v75 V (ix3 b 0 t) : EReal) = rW01 (cX V b t) (cY V b t) := by
  unfold rW01
  rw [← p_at, ← q_at, ← k0_at, ← k1_at]
  pointwise [res_main_v75]

theorem zr_at : (res_main_v85 V (ix3 b j t) : EReal) = rZr (cX V b t) (cY V b t) j := by
  unfold rZr rW00
  rw [← p_at, ← q_at, ← k0_at, ← k1_at, ← w01_at, ← ctrX_at, ← ctrY_at]
  pointwise [res_main_v85]

theorem zi_at : (res_main_v90 V (ix3 b j t) : EReal) = rZi (cX V b t) (cY V b t) j := by
  unfold rZi rW11
  rw [← p_at, ← q_at, ← k0_at, ← k1_at, ← w01_at, ← ctrX_at, ← ctrY_at]
  pointwise [res_main_v90]

/-! ## The results -/

/-- A result array from the two parts, the weights `p`, `q` and the bias `h` of each channel. -/
def mixed (X Y : Vec Ideal S8x256x8192 .f32) (p q h : Fin 256 → EReal) : Vec Ideal S8x256x8192 .f32 := fun i =>
  (rZr (gcol X (i 0) (i 2)) (gcol Y (i 0) (i 2)) (i 1) * p (i 1)
    + rZi (gcol X (i 0) (i 2)) (gcol Y (i 0) (i 2)) (i 1) * q (i 1) + h (i 1) : EReal)

/-- The weight from part `a` to part `b`, of each channel; -/
def weight (W : Vec Ideal S2x2x256 .f32) (a b : Fin 2) (j : Fin 256) : EReal := W (ix3 a b j)
/-- the bias of part `a`. -/
def bias (H : Vec Ideal S2x256 .f32) (a : Fin 2) (j : Fin 256) : EReal := H (ix2 a j)

/-- **The first result**, -/
def result0 : Vec Ideal S8x256x8192 .f32 :=
  mixed (argX V) (argY V) (weight (argW V) 0 0) (weight (argW V) 1 0) (bias (argH V) 0)

/-- **and the second.** -/
def result1 : Vec Ideal S8x256x8192 .f32 :=
  mixed (argX V) (argY V) (weight (argW V) 0 1) (weight (argW V) 1 1) (bias (argH V) 1)

/-- The whitened parts. -/
abbrev partR : S8x256x8192.Idx → EReal := res_main_v85 V
abbrev partI : S8x256x8192.Idx → EReal := res_main_v90 V

theorem result0_at : (result0 V (ix3 b j t) : EReal) =
    partR V (ix3 b j t) * weight (argW V) 0 0 j + partI V (ix3 b j t) * weight (argW V) 1 0 j + bias (argH V) 0 j := by
  unfold partR partI
  rw [zr_at, zi_at]
  rfl

theorem result1_at : (result1 V (ix3 b j t) : EReal) =
    partR V (ix3 b j t) * weight (argW V) 0 1 j + partI V (ix3 b j t) * weight (argW V) 1 1 j + bias (argH V) 1 j := by
  unfold partR partI
  rw [zr_at, zi_at]
  rfl

/-- An index by its coordinates. -/
theorem whole_idx (i : S8x256x8192.Idx) : ∃ (b : Fin 8) (j : Fin 256) (t : Fin 8192), i = ix3 b j t :=
  ⟨i 0, i 1, i 2, eq_ix3 i⟩

theorem val_v105 : val3 V (Proc.devRef .tc main_v105) = result0 V := by
  rw [val3_main_v105]
  funext i
  obtain ⟨b, j, t, rfl⟩ := whole_idx i
  rw [result0_at]
  pointwise [res_main_v91, res_main_v92, weight, bias]

theorem val_v118 : val3 V (Proc.devRef .tc main_v118) = result1 V := by
  rw [val3_main_v118]
  funext i
  obtain ⟨b, j, t, rfl⟩ := whole_idx i
  rw [result1_at]
  pointwise [res_main_v91, res_main_v92, weight, bias]

end Cert.ReferenceIdeal.Read
-- ==== Proof.Real.lean ====
/-
  The mathematics, over the reals alone: the covariance of a pair of columns, and the inverse square root of a positive
  2 by 2 symmetric matrix, once in closed form and once through its eigenvalues and eigenvectors.
-/
module

public import Mathlib.Algebra.Order.BigOperators.Ring.Finset
public import Mathlib.Analysis.SpecialFunctions.Pow.Real
public import Mathlib.Tactic.LinearCombination
public import Mathlib.Tactic.FieldSimp
public import Mathlib.Tactic.Linarith

@[expose] public section

noncomputable section

namespace Cert.RealMath

/-! ## The covariance of 256 pairs -/

/-- The mean of 256 reals. -/
def mean (x : Fin 256 → ℝ) : ℝ := (∑ j, x j) * (1 / 256)

/-- The mean product of the centred columns is the mean product less the product of the means. -/
theorem mean_ctr (x y : Fin 256 → ℝ) :
    (mean fun j => (x j - mean x) * (y j - mean y)) = (mean fun j => x j * y j) - mean x * mean y := by
  have hx : ∑ j, x j = 256 * mean x := by unfold mean; ring
  have hy : ∑ j, y j = 256 * mean y := by unfold mean; ring
  generalize mean x = m at *
  generalize mean y = n at *
  have e : ∀ j, (x j - m) * (y j - n) = x j * y j - m * y j - x j * n + m * n := fun j => by ring
  unfold mean
  simp only [e, Finset.sum_add_distrib, Finset.sum_sub_distrib, ← Finset.mul_sum, ← Finset.sum_mul, hx, hy,
    Finset.sum_const, Finset.card_univ, Fintype.card_fin, nsmul_eq_mul]
  push_cast
  ring

/-- A mean square is not negative. -/
theorem mean_sq_nonneg (u : Fin 256 → ℝ) : 0 ≤ mean fun j => u j * u j :=
  mul_nonneg (Finset.sum_nonneg fun j _ => mul_self_nonneg (u j)) (by norm_num)

/-- Cauchy and Schwarz: the squared mean product is at most the product of the mean squares. -/
theorem mean_mul_sq_le (u v : Fin 256 → ℝ) :
    (mean fun j => u j * v j) * (mean fun j => u j * v j) ≤ (mean fun j => u j * u j) * (mean fun j => v j * v j) := by
  have h := Finset.sum_mul_sq_le_sq_mul_sq Finset.univ u v
  have hu : ∑ j, u j * u j = ∑ j, u j ^ 2 := Finset.sum_congr rfl fun j _ => by ring
  have hv : ∑ j, v j * v j = ∑ j, v j ^ 2 := Finset.sum_congr rfl fun j _ => by ring
  unfold mean
  rw [hu, hv]
  nlinarith [h]

/-! ## The inverse square root of `[[a, b], [b, c]]` -/

section Matrix

variable {a b c : ℝ}

/-- The closed form's common factor: `1 / (√det · √(a + c + 2 √det))`. -/
def fac (a b c : ℝ) : ℝ :=
  (Real.sqrt (a * c - b * b))⁻¹ * (Real.sqrt (a + c + 2 * Real.sqrt (a * c - b * b)))⁻¹

/-- The radius: half the distance of the eigenvalues. -/
def rad (a b c : ℝ) : ℝ := Real.sqrt ((a - c) / 2 * ((a - c) / 2) + b * b)

/-- The cosine of twice the eigenvectors' angle. -/
def cos2 (a b c : ℝ) : ℝ := if rad a b c = 0 then 1 else (a - c) / 2 / rad a b c

/-- The eigenvectors' entries, -/
def p (a b c : ℝ) : ℝ := Real.sqrt ((1 + cos2 a b c) / 2)
def q (a b c : ℝ) : ℝ := (if b < 0 then -1 else 1) * Real.sqrt ((1 - cos2 a b c) / 2)

/-- and the eigenvalues' inverse square roots. -/
def k0 (a b c : ℝ) : ℝ := (Real.sqrt ((a + c) / 2 - rad a b c))⁻¹
def k1 (a b c : ℝ) : ℝ := (Real.sqrt ((a + c) / 2 + rad a b c))⁻¹

theorem rad_nonneg : 0 ≤ rad a b c := Real.sqrt_nonneg _

theorem rad_sq : rad a b c * rad a b c = (a - c) / 2 * ((a - c) / 2) + b * b :=
  Real.mul_self_sqrt (by nlinarith [mul_self_nonneg ((a - c) / 2), mul_self_nonneg b])

/-- Radius zero: the matrix is a multiple of the identity. -/
theorem of_rad_zero (h : rad a b c = 0) : a = c ∧ b = 0 := by
  have h1 := rad_sq (a := a) (b := b) (c := c)
  rw [h] at h1
  have h2 := mul_self_nonneg ((a - c) / 2)
  have h3 := mul_self_nonneg b
  have h4 : (a - c) / 2 * ((a - c) / 2) = 0 := by linarith
  have h5 : b * b = 0 := by linarith
  exact ⟨by linarith [mul_self_eq_zero.mp h4], mul_self_eq_zero.mp h5⟩

/-- The cosine times the radius is half the diagonal's difference. -/
theorem cos2_mul_rad : cos2 a b c * rad a b c = (a - c) / 2 := by
  unfold cos2
  split_ifs with h
  · rw [h, (of_rad_zero h).1]; ring
  · field_simp

theorem abs_half_le_rad : |(a - c) / 2| ≤ rad a b c :=
  Real.abs_le_sqrt (by nlinarith [mul_self_nonneg b])

theorem cos2_le : cos2 a b c ≤ 1 := by
  unfold cos2
  split_ifs with h
  · exact le_refl _
  · have hr : 0 < rad a b c := lt_of_le_of_ne rad_nonneg (Ne.symm h)
    rw [div_le_one hr]
    exact (le_abs_self _).trans abs_half_le_rad

theorem le_cos2 : -1 ≤ cos2 a b c := by
  unfold cos2
  split_ifs with h
  · norm_num
  · have hr : 0 < rad a b c := lt_of_le_of_ne rad_nonneg (Ne.symm h)
    rw [le_div_iff₀ hr]
    have := (neg_abs_le ((a - c) / 2)).trans' (neg_le_neg (abs_half_le_rad (a := a) (b := b) (c := c)))
    linarith

theorem p_sq : p a b c * p a b c = (1 + cos2 a b c) / 2 :=
  Real.mul_self_sqrt (by linarith [le_cos2 (a := a) (b := b) (c := c)])

theorem q_sq : q a b c * q a b c = (1 - cos2 a b c) / 2 := by
  have h : Real.sqrt ((1 - cos2 a b c) / 2) * Real.sqrt ((1 - cos2 a b c) / 2) = (1 - cos2 a b c) / 2 :=
    Real.mul_self_sqrt (by linarith [cos2_le (a := a) (b := b) (c := c)])
  unfold q
  split_ifs <;> linarith

/-- The product of the eigenvectors' entries: half the sine of twice their angle. -/
theorem pq_rad : 2 * (p a b c * q a b c) * rad a b c = b := by
  have hs : Real.sqrt ((1 + cos2 a b c) / 2) * Real.sqrt ((1 - cos2 a b c) / 2) * (2 * rad a b c) = |b| := by
    have h1 : 0 ≤ (1 + cos2 a b c) / 2 := by linarith [le_cos2 (a := a) (b := b) (c := c)]
    rw [← Real.sqrt_mul h1, ← Real.sqrt_mul_self (show 0 ≤ 2 * rad a b c by linarith [rad_nonneg (a := a) (b := b) (c := c)]),
      ← Real.sqrt_mul (by nlinarith [le_cos2 (a := a) (b := b) (c := c), cos2_le (a := a) (b := b) (c := c)]),
      ← Real.sqrt_mul_self_eq_abs]
    congr 1
    have h2 := cos2_mul_rad (a := a) (b := b) (c := c)
    have h3 := rad_sq (a := a) (b := b) (c := c)
    have h4 : (cos2 a b c * rad a b c) * (cos2 a b c * rad a b c) = (a - c) / 2 * ((a - c) / 2) := by rw [h2]
    nlinarith
  unfold p q
  split_ifs with h
  · rw [abs_of_neg h] at hs; linarith
  · rw [abs_of_nonneg (not_lt.mp h)] at hs; linarith

/-! The reference's closed form is an eigendecomposition: the vectors `(-q, p)` and `(p, q)`, orthogonal as they stand, have
length 1, and the matrix rebuilt from them and the eigenvalues is `[[a, b], [b, c]]`. -/

/-- The eigenvectors have length 1. -/
theorem unit : p a b c * p a b c + q a b c * q a b c = 1 := by rw [p_sq, q_sq]; ring

/-- The rebuilt matrix's entries: the first of the diagonal, -/
theorem rebuild_a :
    q a b c * ((a + c) / 2 - rad a b c) * q a b c + p a b c * ((a + c) / 2 + rad a b c) * p a b c = a := by
  have hp := p_sq (a := a) (b := b) (c := c)
  have hq := q_sq (a := a) (b := b) (c := c)
  have hr := cos2_mul_rad (a := a) (b := b) (c := c)
  linear_combination ((a + c) / 2 - rad a b c) * hq + ((a + c) / 2 + rad a b c) * hp + hr

/-- the second of the diagonal, -/
theorem rebuild_c :
    p a b c * ((a + c) / 2 - rad a b c) * p a b c + q a b c * ((a + c) / 2 + rad a b c) * q a b c = c := by
  have hp := p_sq (a := a) (b := b) (c := c)
  have hq := q_sq (a := a) (b := b) (c := c)
  have hr := cos2_mul_rad (a := a) (b := b) (c := c)
  linear_combination ((a + c) / 2 - rad a b c) * hp + ((a + c) / 2 + rad a b c) * hq - hr

/-- and the one off it. -/
theorem rebuild_b :
    p a b c * ((a + c) / 2 + rad a b c) * q a b c - q a b c * ((a + c) / 2 - rad a b c) * p a b c = b := by
  linear_combination pq_rad (a := a) (b := b) (c := c)

variable (ha : 0 < a) (hc : 0 < c) (hd : 0 < a * c - b * b)

include ha hc hd

/-- The smaller eigenvalue is positive. -/
theorem rad_lt : rad a b c < (a + c) / 2 := by
  unfold rad
  rw [Real.sqrt_lt' (by linarith)]
  nlinarith

/-- The two eigenvalues' square roots `u`, `v` give the determinant's root `u v`, and the common factor
    `1 / (u v (u + v))`. -/
theorem fac_eq (u v : ℝ) (hu : u = Real.sqrt ((a + c) / 2 - rad a b c)) (hv : v = Real.sqrt ((a + c) / 2 + rad a b c)) :
    0 < u ∧ 0 < v ∧ u * u = (a + c) / 2 - rad a b c ∧ v * v = (a + c) / 2 + rad a b c
      ∧ Real.sqrt (a * c - b * b) = u * v ∧ fac a b c = (u * v)⁻¹ * (u + v)⁻¹ := by
  have hr := rad_lt ha hc hd
  have h0 := rad_nonneg (a := a) (b := b) (c := c)
  have hu0 : 0 < u := hu ▸ Real.sqrt_pos.mpr (by linarith)
  have hv0 : 0 < v := hv ▸ Real.sqrt_pos.mpr (by linarith)
  have hu2 : u * u = (a + c) / 2 - rad a b c := hu ▸ Real.mul_self_sqrt (by linarith)
  have hv2 : v * v = (a + c) / 2 + rad a b c := hv ▸ Real.mul_self_sqrt (by linarith)
  have hs : Real.sqrt (a * c - b * b) = u * v := by
    rw [← Real.sqrt_mul_self (mul_pos hu0 hv0).le]
    congr 1
    have e : u * v * (u * v) = (u * u) * (v * v) := by ring
    rw [e, hu2, hv2]
    linear_combination rad_sq (a := a) (b := b) (c := c)
  refine ⟨hu0, hv0, hu2, hv2, hs, ?_⟩
  have ht : Real.sqrt (a + c + 2 * (u * v)) = u + v := by
    rw [← Real.sqrt_mul_self (add_pos hu0 hv0).le]
    congr 1
    linear_combination -hu2 - hv2
  unfold fac
  rw [hs, ht]

/-- The two inverse square roots' sum and difference, by the common factor. -/
theorem k_add : k0 a b c + k1 a b c = (a + c + 2 * Real.sqrt (a * c - b * b)) * fac a b c := by
  obtain ⟨hu0, hv0, hu2, hv2, hs, hf⟩ := fac_eq ha hc hd _ _ rfl rfl
  rw [hs, hf]
  unfold k0 k1
  generalize Real.sqrt ((a + c) / 2 - rad a b c) = u at *
  generalize Real.sqrt ((a + c) / 2 + rad a b c) = v at *
  have e : a + c = u * u + v * v := by linarith
  have : u + v ≠ 0 := (add_pos hu0 hv0).ne'
  rw [e]
  field_simp
  ring

theorem k_sub : k1 a b c - k0 a b c = -(2 * rad a b c) * fac a b c := by
  obtain ⟨hu0, hv0, hu2, hv2, hs, hf⟩ := fac_eq ha hc hd _ _ rfl rfl
  rw [hf]
  unfold k0 k1
  generalize Real.sqrt ((a + c) / 2 - rad a b c) = u at *
  generalize Real.sqrt ((a + c) / 2 + rad a b c) = v at *
  have e : 2 * rad a b c = v * v - u * u := by linarith
  have : u + v ≠ 0 := (add_pos hu0 hv0).ne'
  rw [e]
  field_simp
  ring

/-- The spectral entries are the closed form's. -/
theorem w00_eq : q a b c * k0 a b c * q a b c + p a b c * k1 a b c * p a b c
    = (c + Real.sqrt (a * c - b * b)) * fac a b c := by
  have hA := k_add ha hc hd
  have hS := k_sub ha hc hd
  have hP := p_sq (a := a) (b := b) (c := c)
  have hQ := q_sq (a := a) (b := b) (c := c)
  have hC := cos2_mul_rad (a := a) (b := b) (c := c)
  linear_combination k0 a b c * hQ + k1 a b c * hP + (1 / 2) * hA + (cos2 a b c / 2) * hS - fac a b c * hC

theorem w11_eq : p a b c * k0 a b c * p a b c + q a b c * k1 a b c * q a b c
    = (a + Real.sqrt (a * c - b * b)) * fac a b c := by
  have hA := k_add ha hc hd
  have hS := k_sub ha hc hd
  have hP := p_sq (a := a) (b := b) (c := c)
  have hQ := q_sq (a := a) (b := b) (c := c)
  have hC := cos2_mul_rad (a := a) (b := b) (c := c)
  linear_combination k0 a b c * hP + k1 a b c * hQ + (1 / 2) * hA - (cos2 a b c / 2) * hS + fac a b c * hC

theorem w01_eq : q a b c * k1 a b c * p a b c - q a b c * k0 a b c * p a b c = (0 - b) * fac a b c := by
  have hS := k_sub ha hc hd
  have hB := pq_rad (a := a) (b := b) (c := c)
  linear_combination (p a b c * q a b c) * hS - fac a b c * hB

end Matrix

end Cert.RealMath
-- ==== Proof.Whitening.lean ====
/-
  The equation between the kernel's column and the reference's: for a column of real numbers the two whitened values of
  every entry are the same extended real.
-/
module

public import proofs.«01_k».proof.Proof.Column
public import proofs.«01_k».proof.Proof.Real

@[expose] public section

noncomputable section

open Idealize.ShloMosaic

namespace Cert.Column

open Cert.RealMath (mean)

/-- A finite sum of reals, read in the extended reals. -/
theorem coe_sum {ι : Type*} (s : Finset ι) (x : ι → ℝ) : ∑ j ∈ s, (x j : EReal) = ((∑ j ∈ s, x j : ℝ) : EReal) := by
  classical
  induction s using Finset.induction_on with
  | empty => simp
  | insert a s ha ih => rw [Finset.sum_insert ha, Finset.sum_insert ha, ih, EReal.coe_add]

/-- A quotient of reals. -/
theorem div_real (x y : ℝ) (h : y ≠ 0) : Ideal.div (x : EReal) (y : EReal) = ((x / y : ℝ) : EReal) := by
  rw [Ideal.div_coe h, ← EReal.coe_mul]
  congr 1
  ring

theorem sqrt_real (x : ℝ) (h : 0 ≤ x) : Ideal.sqrt (x : EReal) = (Real.sqrt x : EReal) := by
  rw [Ideal.sqrt_coe, if_neg (not_lt.mpr h)]

theorem rsqrt_real (x : ℝ) (h : 0 < x) : Ideal.rsqrt (x : EReal) = ((Real.sqrt x)⁻¹ : ℝ) := by
  rw [Ideal.rsqrt_coe, if_neg (not_lt.mpr h.le), if_neg h.ne']

/-- A positive real to the power −1/2. -/
theorem pow_neg_half (x : ℝ) (h : 0 < x) :
    Ideal.pow (x : EReal) (Ideal.ofBits .f32 0xBF000000#32) = ((Real.sqrt x)⁻¹ : ℝ) := by
  rw [word_neg_half, Ideal.pow_coe_coe, Real.sqrt_eq_rpow, ← Real.rpow_neg h.le]
  rfl

section

variable (x y : Fin 256 → ℝ)

/-- The column of reals, as one of extended reals. -/
abbrev up (x : Fin 256 → ℝ) : Fin 256 → EReal := fun j => (x j : EReal)

theorem kMean_up : kMean (up x) = (mean x : EReal) := by
  unfold kMean mean
  rw [coe_sum, word_inv256, ← EReal.coe_mul]

theorem rMean_up : rMean (up x) = (mean x : EReal) := by
  unfold rMean mean
  rw [coe_sum, word_256, div_real _ _ (by norm_num)]
  congr 1
  ring

theorem rCtr_up (j : Fin 256) : rCtr (up x) j = ((x j - mean x : ℝ) : EReal) := by
  unfold rCtr
  rw [rMean_up, EReal.coe_sub]

/-- The covariance of two real columns. -/
def cv : ℝ := mean fun j => (x j - mean x) * (y j - mean y)

theorem rCov_up : rCov (up x) (up y) = (cv x y : EReal) := by
  unfold rCov cv
  rw [← rMean_up]
  congr 1
  funext j
  rw [rCtr_up, rCtr_up, ← EReal.coe_mul]

theorem kCov_up : kCov (up x) (up y) = (cv x y : EReal) := by
  unfold kCov cv
  have e : (fun j => up x j * up y j) = up fun j => x j * y j := funext fun j => (EReal.coe_mul _ _).symm
  rw [e, kMean_up, kMean_up, kMean_up, RealMath.mean_ctr, EReal.coe_sub, EReal.coe_mul]

/-- The variance is the covariance with itself, plus epsilon, on both sides. -/
theorem kVar_eq (X : Fin 256 → EReal) : kVar X = kCov X X + Ideal.ofBits .f32 0x358637BD#32 := rfl
theorem rVar_eq (X : Fin 256 → EReal) : rVar X = rCov X X + Ideal.ofBits .f32 0x358637BD#32 := rfl

/-- Both sides' covariance matrix is one real matrix `[[a, b], [b, c]]`, positive definite. -/
theorem matrix : ∃ a b c : ℝ, 0 < a ∧ 0 < c ∧ 0 < a * c - b * b
    ∧ kVar (up x) = a ∧ kVar (up y) = c ∧ kCov (up x) (up y) = b
    ∧ rVar (up x) = a ∧ rVar (up y) = c ∧ rCov (up x) (up y) = b := by
  obtain ⟨e, he, hw⟩ := word_eps
  have ha : 0 ≤ cv x x := RealMath.mean_sq_nonneg _
  have hc : 0 ≤ cv y y := RealMath.mean_sq_nonneg _
  have hb : cv x y * cv x y ≤ cv x x * cv y y := RealMath.mean_mul_sq_le _ _
  refine ⟨cv x x + e, cv x y, cv y y + e, by linarith, by linarith, by nlinarith, ?_⟩
  simp only [kVar_eq, rVar_eq, kCov_up, rCov_up, hw, EReal.coe_add, and_self]

/-- The whitening matrices agree and are real. -/
theorem weights : ∃ u v w : ℝ,
    kW00 (up x) (up y) = u ∧ kW01 (up x) (up y) = v ∧ kW11 (up x) (up y) = w
    ∧ rW00 (up x) (up y) = u ∧ rW01 (up x) (up y) = v ∧ rW11 (up x) (up y) = w := by
  obtain ⟨a, b, c, ha, hc, hd, ka, kc, kb, ra, rc, rb⟩ := matrix x y
  have hs : 0 < Real.sqrt (a * c - b * b) := Real.sqrt_pos.mpr hd
  -- the kernel's side
  have kdet : kDet (up x) (up y) = ((a * c - b * b : ℝ) : EReal) := by
    unfold kDet; rw [ka, kc, kb, EReal.coe_sub, EReal.coe_mul, EReal.coe_mul]
  have kroot : kRoot (up x) (up y) = (Real.sqrt (a * c - b * b) : EReal) := by
    unfold kRoot
    rw [kdet, rsqrt_real _ hd, ← EReal.coe_mul]
    congr 1
    rw [← div_eq_mul_inv, Real.div_sqrt]
  have kfac : kFac (up x) (up y) = (RealMath.fac a b c : EReal) := by
    unfold kFac RealMath.fac
    rw [kroot, kdet, ka, kc, word_two, ← EReal.coe_mul, ← EReal.coe_add, ← EReal.coe_add, rsqrt_real _ hd,
      rsqrt_real _ (by linarith), ← EReal.coe_mul]
  -- the reference's side
  have rmid : rMid (up x) (up y) = (((a + c) / 2 : ℝ) : EReal) := by
    unfold rMid; rw [ra, rc, word_two, ← EReal.coe_add, div_real _ _ (by norm_num)]
  have rdif : rDif (up x) (up y) = (((a - c) / 2 : ℝ) : EReal) := by
    unfold rDif; rw [ra, rc, word_two, ← EReal.coe_sub, div_real _ _ (by norm_num)]
  have rrad : rRad (up x) (up y) = (RealMath.rad a b c : EReal) := by
    unfold rRad RealMath.rad
    rw [rdif, rb, ← EReal.coe_mul, ← EReal.coe_mul, ← EReal.coe_add, sqrt_real]
    nlinarith [mul_self_nonneg ((a - c) / 2), mul_self_nonneg b]
  have rcos : rCos (up x) (up y) = (RealMath.cos2 a b c : EReal) := by
    unfold rCos RealMath.cos2
    rw [rrad, rdif]
    by_cases h : RealMath.rad a b c = 0
    · rw [if_pos h, if_pos (by rw [h]; rfl)]; rfl
    · rw [if_neg h, if_neg (by exact_mod_cast h), div_real _ _ h]
  have c1 := RealMath.cos2_le (a := a) (b := b) (c := c)
  have c2 := RealMath.le_cos2 (a := a) (b := b) (c := c)
  have rp : rP (up x) (up y) = (RealMath.p a b c : EReal) := by
    unfold rP RealMath.p
    rw [rcos, word_two, ← EReal.coe_one, ← EReal.coe_add, div_real _ _ (by norm_num), sqrt_real]
    linarith
  have rq : rQ (up x) (up y) = (RealMath.q a b c : EReal) := by
    unfold rQ RealMath.q
    rw [rcos, rb, word_two, word_neg_one, ← EReal.coe_one, ← EReal.coe_sub, div_real _ _ (by norm_num),
      sqrt_real _ (by linarith), EReal.coe_mul]
    congr 1
    by_cases h : b < 0
    · rw [if_pos h, if_pos (by exact_mod_cast h)]
    · rw [if_neg h, if_neg (by exact_mod_cast h)]
  have hr := RealMath.rad_lt ha hc hd
  have h0 := RealMath.rad_nonneg (a := a) (b := b) (c := c)
  have rk0 : rK0 (up x) (up y) = (RealMath.k0 a b c : EReal) := by
    unfold rK0 RealMath.k0
    rw [rmid, rrad, ← EReal.coe_sub, pow_neg_half _ (by linarith)]
  have rk1 : rK1 (up x) (up y) = (RealMath.k1 a b c : EReal) := by
    unfold rK1 RealMath.k1
    rw [rmid, rrad, ← EReal.coe_add, pow_neg_half _ (by linarith)]
  refine ⟨(c + Real.sqrt (a * c - b * b)) * RealMath.fac a b c, (0 - b) * RealMath.fac a b c,
    (a + Real.sqrt (a * c - b * b)) * RealMath.fac a b c, ?_, ?_, ?_, ?_, ?_, ?_⟩
  · unfold kW00; rw [kc, kroot, kfac, EReal.coe_mul, EReal.coe_add]
  · unfold kW01; rw [kb, kfac, EReal.coe_mul, EReal.coe_sub, EReal.coe_zero]
  · unfold kW11; rw [ka, kroot, kfac, EReal.coe_mul, EReal.coe_add]
  · unfold rW00; rw [rp, rq, rk0, rk1, ← RealMath.w00_eq ha hc hd]; push_cast; rfl
  · unfold rW01; rw [rp, rq, rk0, rk1, ← RealMath.w01_eq ha hc hd]; push_cast; rfl
  · unfold rW11; rw [rp, rq, rk0, rk1, ← RealMath.w11_eq ha hc hd]; push_cast; rfl

/-- The weighted entry less the weighted mean is the weighted centred entry (over the reals). -/
theorem whiten (s t m n u v : ℝ) : (s : EReal) * u + (t : EReal) * v - ((m : EReal) * u + (n : EReal) * v)
    = ((s - m : ℝ) : EReal) * u + ((t - n : ℝ) : EReal) * v := by
  simp only [← EReal.coe_mul, ← EReal.coe_add, ← EReal.coe_sub]
  congr 1
  ring

theorem zr_up (j : Fin 256) : kZr (up x) (up y) (up x j) (up y j) = rZr (up x) (up y) j := by
  obtain ⟨u, v, w, k00, k01, k11, r00, r01, r11⟩ := weights x y
  unfold kZr rZr
  rw [k00, k01, r00, r01, kMean_up, kMean_up, rCtr_up, rCtr_up]
  exact whiten _ _ _ _ _ _

theorem zi_up (j : Fin 256) : kZi (up x) (up y) (up x j) (up y j) = rZi (up x) (up y) j := by
  obtain ⟨u, v, w, k00, k01, k11, r00, r01, r11⟩ := weights x y
  unfold kZi rZi
  rw [k01, k11, r01, r11, kMean_up, kMean_up, rCtr_up, rCtr_up]
  exact whiten _ _ _ _ _ _

end

/-- A column none of whose entries is an infinity is a column of reals. -/
theorem exists_up (X : Fin 256 → EReal) (h : ∀ j, X j ≠ ⊤ ∧ X j ≠ ⊥) : ∃ x, X = up x :=
  ⟨fun j => (X j).toReal, funext fun j => (EReal.coe_toReal (h j).1 (h j).2).symm⟩

/-- **The equation.** On finite columns the kernel's whitened real part is the reference's, -/
theorem zr_eq (X Y : Fin 256 → EReal) (hX : ∀ j, X j ≠ ⊤ ∧ X j ≠ ⊥) (hY : ∀ j, Y j ≠ ⊤ ∧ Y j ≠ ⊥) (j : Fin 256) :
    kZr X Y (X j) (Y j) = rZr X Y j := by
  obtain ⟨x, rfl⟩ := exists_up X hX
  obtain ⟨y, rfl⟩ := exists_up Y hY
  exact zr_up x y j

/-- and so is the imaginary part. -/
theorem zi_eq (X Y : Fin 256 → EReal) (hX : ∀ j, X j ≠ ⊤ ∧ X j ≠ ⊥) (hY : ∀ j, Y j ≠ ⊤ ∧ Y j ≠ ⊥) (j : Fin 256) :
    kZi X Y (X j) (Y j) = rZi X Y j := by
  obtain ⟨x, rfl⟩ := exists_up X hX
  obtain ⟨y, rfl⟩ := exists_up Y hY
  exact zi_up x y j

end Cert.Column
-- ==== Proof.Finite.lean ====
/-
  The precondition, decoded: every entry of the two parts is a real number, neither of the infinities.
-/
module

public import proofs.«01_k».proof.Pre_finite
public import Idealize.ShloMosaic.Lib.Pointwise
public import Idealize.ShloMosaic.Lib.IdealHost

@[expose] public section

noncomputable section

open Idealize.ShloMosaic

namespace Cert.Pre_finite

/-- A scalar spreads over an array of any shape. -/
theorem facts : Cert.Pre_finite.Facts where
  bcast_S_S8x256x8192 := by decide

/-- The word for +∞ is +∞. -/
theorem word_inf : Ideal.ofBits .f32 0x7F800000#32 = (⊤ : EReal) := by
  simp [Ideal.ofBits, Ideal.ieee]

/-- A number whose absolute value is below +∞ is neither infinity. -/
theorem real_of_abs_lt {x : EReal} (h : max x (-x) < ⊤) : x ≠ ⊤ ∧ x ≠ ⊥ := by
  constructor <;> (rintro rfl; simp at h)

/-- The conjunction of two decided facts, both holding. -/
theorem both_of_andi {p q : Prop} [Decidable p] [Decidable q]
    (h : IntOp.andi (BitVec.ofBool (decide p)) (BitVec.ofBool (decide q)) = 1#1) : p ∧ q := by
  by_cases hp : p <;> by_cases hq : q <;> simp_all [IntOp.andi]

/-- The precondition holds of the arguments: their entries are reals. -/
theorem decode [Facts] (X Y : FVec Ideal S8x256x8192 .f32) (W : FVec Ideal S2x2x256 .f32) (H : FVec Ideal S2x256 .f32)
    (h : fn X Y W H = fun _ => 1#1) (b : Fin 8) (j : Fin 256) (t : Fin 8192) :
    ((X (ix3 b j t) : EReal) ≠ ⊤ ∧ (X (ix3 b j t) : EReal) ≠ ⊥)
      ∧ ((Y (ix3 b j t) : EReal) ≠ ⊤ ∧ (Y (ix3 b j t) : EReal) ≠ ⊥) := by
  have e := congrFun h (ix3 b j t)
  pointwise [fn] at e
  rw [word_inf] at e
  exact (both_of_andi e).imp real_of_abs_lt real_of_abs_lt

end Cert.Pre_finite
-- ==== Proof.Necessary.lean ====
/-
  Why the claim asks for finite arguments: on the column whose real part is +∞ throughout and whose imaginary part is
  zero, the kernel's whitened real part is −∞ and the reference's is +∞. Nothing else rests on this module.
-/
module

public import proofs.«01_k».proof.Proof.Whitening

@[expose] public section

noncomputable section

open Idealize.ShloMosaic

namespace Cert.Column

/-- The column of infinities, and the column of zeros. -/
abbrev inf : Fin 256 → EReal := fun _ => ⊤
abbrev zero : Fin 256 → EReal := fun _ => 0

/-! ## Sums and means of the two columns -/

theorem sum_inf : ∑ _j : Fin 256, (⊤ : EReal) = ⊤ := by
  rw [Fin.sum_univ_succ]
  refine EReal.top_add_of_ne_bot fun h => ?_
  have n : (0 : EReal) ≤ ∑ _j : Fin 255, (⊤ : EReal) := Finset.sum_nonneg fun _ _ => le_top
  rw [h] at n
  exact absurd n (by simp)

theorem top_mul_pos {r : ℝ} (h : 0 < r) : (⊤ : EReal) * r = ⊤ := EReal.top_mul_coe_of_pos h

theorem kMean_inf : kMean inf = ⊤ := by
  unfold kMean; rw [sum_inf, word_inv256]; exact top_mul_pos (by norm_num)

theorem kMean_zero : kMean zero = 0 := by simp [kMean]

theorem rMean_inf : rMean inf = ⊤ := by
  unfold rMean; rw [sum_inf, word_256, Ideal.div_coe (by norm_num)]; exact top_mul_pos (by norm_num)

theorem rMean_zero : rMean zero = 0 := by
  unfold rMean; rw [word_256, Ideal.div_coe (by norm_num)]; simp

/-- The kernel's determinant is −∞, its root and factor are +∞, and the entry is the difference of two infinities. -/
theorem kernel_bot : kZr inf zero ⊤ 0 = ⊥ := by
  obtain ⟨e, he, hw⟩ := word_eps
  have va : kVar inf = ⊥ := by
    have h : (kMean fun j => inf j * inf j) = ⊤ := by simpa using kMean_inf
    unfold kVar; rw [h, kMean_inf]; simp
  have vc : kVar zero = e := by
    have h : (kMean fun j => zero j * zero j) = 0 := by simpa using kMean_zero
    unfold kVar; rw [h, kMean_zero, hw]; simp
  have vb : kCov inf zero = 0 := by
    have h : (kMean fun j => inf j * zero j) = 0 := by simpa using kMean_zero
    unfold kCov; rw [h, kMean_zero]; simp
  have hd : kDet inf zero = ⊥ := by
    unfold kDet; rw [va, vc, vb, EReal.bot_mul_coe_of_pos he]; simp
  have hr : kRoot inf zero = ⊤ := by unfold kRoot; rw [hd]; simp
  have hf : kFac inf zero = ⊤ := by unfold kFac; rw [hd, hr, va, vc]; simp
  have h00 : kW00 inf zero = ⊤ := by unfold kW00; rw [vc, hr, hf]; simp
  have h01 : kW01 inf zero = 0 := by unfold kW01; rw [vb, hf]; simp
  unfold kZr
  rw [h00, h01, kMean_inf, kMean_zero]
  simp

/-- The reference's centred entries are −∞ and so is the first entry of its matrix: their product is +∞. -/
theorem reference_top : rZr inf zero 0 = ⊤ := by
  obtain ⟨e, he, hw⟩ := word_eps
  have cx : ∀ j, rCtr inf j = ⊥ := fun j => by unfold rCtr; rw [rMean_inf]; simp
  have cy : ∀ j, rCtr zero j = 0 := fun j => by unfold rCtr; rw [rMean_zero]; simp
  have va : rVar inf = ⊤ := by
    have h : (rMean fun j => rCtr inf j * rCtr inf j) = ⊤ := by simpa [cx] using rMean_inf
    unfold rVar; rw [h, hw]; simp
  have vc : rVar zero = e := by
    have h : (rMean fun j => rCtr zero j * rCtr zero j) = 0 := by simpa [cy] using rMean_zero
    unfold rVar; rw [h, hw]; simp
  have vb : rCov inf zero = 0 := by
    have h : (rMean fun j => rCtr inf j * rCtr zero j) = 0 := by simpa [cy] using rMean_zero
    exact h
  have half : (⊤ : EReal) * ((1 / 2 : ℝ) : EReal) = ⊤ := top_mul_pos (by norm_num)
  have hm : rMid inf zero = ⊤ := by
    unfold rMid; rw [va, vc, word_two, Ideal.div_coe (by norm_num), EReal.top_add_coe, half]
  have hd : rDif inf zero = ⊤ := by
    unfold rDif; rw [va, vc, word_two, Ideal.div_coe (by norm_num), EReal.top_sub_coe, half]
  have hr : rRad inf zero = ⊤ := by unfold rRad; rw [hd, vb]; simp
  have hc : rCos inf zero = 0 := by unfold rCos; rw [hr, hd]; simp [Ideal.div]
  have hs : Ideal.sqrt (Ideal.div 1 (2 : ℝ)) = ((Real.sqrt (1 / 2) : ℝ) : EReal) := by
    rw [← EReal.coe_one, div_real _ _ (by norm_num), sqrt_real _ (by norm_num)]
  have pos : 0 < Real.sqrt (1 / 2) := Real.sqrt_pos.mpr (by norm_num)
  have hp : rP inf zero = ((Real.sqrt (1 / 2) : ℝ) : EReal) := by
    unfold rP; rw [hc, word_two, add_zero, hs]
  have hq : rQ inf zero = ((Real.sqrt (1 / 2) : ℝ) : EReal) := by
    unfold rQ; rw [hc, vb, word_two, sub_zero, hs, if_neg (lt_irrefl _), one_mul]
  have h0 : rK0 inf zero = ⊥ := by unfold rK0; rw [hm, hr]; simp
  have h1 : rK1 inf zero = 0 := by
    have n : ((-(1 / 2) : ℝ) : EReal) < 0 := by exact_mod_cast (by norm_num : (-(1 / 2) : ℝ) < 0)
    unfold rK1
    rw [hm, hr, word_neg_half, EReal.top_add_top, Ideal.pow_top, if_neg n.not_gt, if_neg n.ne]
  have h00 : rW00 inf zero = ⊥ := by
    unfold rW00
    rw [hp, hq, h0, h1, EReal.coe_mul_bot_of_pos pos, EReal.bot_mul_coe_of_pos pos]; simp
  have h01 : rW01 inf zero = ⊤ := by
    unfold rW01
    rw [hp, hq, h0, h1, EReal.coe_mul_bot_of_pos pos, EReal.bot_mul_coe_of_pos pos]; simp
  unfold rZr
  rw [h00, h01, cx, cy]
  simp

/-- Without finiteness the two sides differ. -/
theorem differ : kZr inf zero (inf 0) (zero 0) ≠ rZr inf zero 0 := by
  show kZr inf zero ⊤ 0 ≠ _
  rw [kernel_bot, reference_top]
  exact bot_ne_top

end Cert.Column
-- ==== Proof.lean ====
/-
  The proof of `Cert.Claim` (Defs.lean): the kernel and its idealization run, keep their arguments and end quiescent, and
  so does the reference; the idealization replaced nothing; and on finite arguments the idealized kernel and the reference
  end with equal results, as extended reals. The parts:

    Proof/Real.lean       the mathematics over the reals: covariance, and the inverse square root of a 2 by 2 matrix;
    Proof/Column.lean     one column of 256 channels, as the kernel whitens it and as the reference does;
    Proof/Whitening.lean  the two are equal on a column of reals;
    Proof/Vocab.lean, Tiles.lean, Block.lean   what one grid point of the kernel computes;
    Proof/Whole.lean      what the kernel's result arrays hold after the run;
    Proof/Reference.lean  what the reference computes;
    Proof/Finite.lean     what the precondition says;
    Proof/Necessary.lean  a column with infinite entries on which the two sides differ.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Whole
public import proofs.«01_k».proof.Proof.Reference
public import proofs.«01_k».proof.Proof.Whitening
public import proofs.«01_k».proof.Proof.Finite
public import proofs.«01_k».proof.Proof.Necessary
public import Idealize.ShloMosaic.Lib.Quiescent

@[expose] public section

noncomputable section

namespace Cert.Proof

open Idealize.ShloMosaic Idealize.ShloMosaic.TcCoe Idealize.SL.Sem

attribute [local instance] Cert.Pre_finite.facts

/-! ## The two runs, read -/

/-- The idealized kernel's run: the two results at the functions of Whole.lean, the arguments kept. -/
theorem run_kernel (m : (ℓ : Loc KernelIdeal.nD KernelIdeal.τ KernelIdeal.sig) → Buf (Elt Ideal) ℓ)
    (g : Dev KernelIdeal.nD → PrngReg) :
    θ_run (KernelIdeal.defs (F := Ideal)) (onTc (τ := KernelIdeal.τ) (KernelIdeal.main (F := Ideal)))
      ⟨m, fun _ => 0, g⟩ fun r => ∀ c : Dev KernelIdeal.nD,
        r.2.mem ((c : Thread KernelIdeal.nD KernelIdeal.τ).loc KernelIdeal.main_v0_0) = KernelIdeal.Whole.result0 m c
        ∧ r.2.mem ((c : Thread KernelIdeal.nD KernelIdeal.τ).loc KernelIdeal.main_v0_1) = KernelIdeal.Whole.result1 m c
        ∧ r.2.mem ((c : Thread KernelIdeal.nD KernelIdeal.τ).loc KernelIdeal.main_arg0) = m (c.tc.loc KernelIdeal.main_arg0)
        ∧ r.2.mem ((c : Thread KernelIdeal.nD KernelIdeal.τ).loc KernelIdeal.main_arg1) = m (c.tc.loc KernelIdeal.main_arg1)
        ∧ r.2.mem ((c : Thread KernelIdeal.nD KernelIdeal.τ).loc KernelIdeal.main_arg2) = m (c.tc.loc KernelIdeal.main_arg2)
        ∧ r.2.mem ((c : Thread KernelIdeal.nD KernelIdeal.τ).loc KernelIdeal.main_arg3) = m (c.tc.loc KernelIdeal.main_arg3) :=
  (θ_run KernelIdeal.defs _ _).mono
    (fun _ h c => ⟨(h c).1.trans (KernelIdeal.Whole.final4 m c), (h c).2.1.trans (KernelIdeal.Whole.final5 m c), (h c).2.2⟩)
    (KernelIdeal.Value.run_blocks m g)

/-- The reference's run: the two results at the functions of Reference.lean, the arguments kept. -/
theorem run_reference (m : (ℓ : Loc ReferenceIdeal.nD ReferenceIdeal.τ ReferenceIdeal.sig) → Buf (Elt Ideal) ℓ)
    (g : Dev ReferenceIdeal.nD → PrngReg) :
    θ_run (ReferenceIdeal.defs (F := Ideal)) (onTc (τ := ReferenceIdeal.τ) (ReferenceIdeal.main (F := Ideal)))
      ⟨m, fun _ => 0, g⟩ fun r => ∀ c : Dev ReferenceIdeal.nD,
        r.2.mem ((c : Thread ReferenceIdeal.nD ReferenceIdeal.τ).loc ReferenceIdeal.main_v105)
            = ReferenceIdeal.Read.result0 (StableHlo.launchContents m c)
        ∧ r.2.mem ((c : Thread ReferenceIdeal.nD ReferenceIdeal.τ).loc ReferenceIdeal.main_v118)
            = ReferenceIdeal.Read.result1 (StableHlo.launchContents m c)
        ∧ r.2.mem ((c : Thread ReferenceIdeal.nD ReferenceIdeal.τ).loc ReferenceIdeal.main_arg0) = m (c.tc.loc ReferenceIdeal.main_arg0)
        ∧ r.2.mem ((c : Thread ReferenceIdeal.nD ReferenceIdeal.τ).loc ReferenceIdeal.main_arg1) = m (c.tc.loc ReferenceIdeal.main_arg1)
        ∧ r.2.mem ((c : Thread ReferenceIdeal.nD ReferenceIdeal.τ).loc ReferenceIdeal.main_arg2) = m (c.tc.loc ReferenceIdeal.main_arg2)
        ∧ r.2.mem ((c : Thread ReferenceIdeal.nD ReferenceIdeal.τ).loc ReferenceIdeal.main_arg3) = m (c.tc.loc ReferenceIdeal.main_arg3) :=
  (θ_run ReferenceIdeal.defs _ _).mono
    (fun _ h c => ⟨(h c).1.trans ((ReferenceIdeal.Value.val3_main_v105 _).symm.trans (ReferenceIdeal.Read.val_v105 _)),
      (h c).2.1.trans ((ReferenceIdeal.Value.val3_main_v118 _).symm.trans (ReferenceIdeal.Read.val_v118 _)), (h c).2.2⟩)
    (ReferenceIdeal.Value.run m g)

/-- The reference's frame: the arguments kept, and no semaphore to be left raised. -/
theorem frame_reference (m : (ℓ : Loc ReferenceIdeal.nD ReferenceIdeal.τ ReferenceIdeal.sig) → Buf (Elt Ideal) ℓ)
    (g : Dev ReferenceIdeal.nD → PrngReg) :
    θ_run (ReferenceIdeal.defs (F := Ideal)) (onTc (τ := ReferenceIdeal.τ) (ReferenceIdeal.main (F := Ideal)))
      ⟨m, fun _ => 0, g⟩ fun r => (∀ c : Dev ReferenceIdeal.nD,
        r.2.mem ((c : Thread ReferenceIdeal.nD ReferenceIdeal.τ).loc ReferenceIdeal.main_arg0) = m (c.tc.loc ReferenceIdeal.main_arg0)
        ∧ r.2.mem ((c : Thread ReferenceIdeal.nD ReferenceIdeal.τ).loc ReferenceIdeal.main_arg1) = m (c.tc.loc ReferenceIdeal.main_arg1)
        ∧ r.2.mem ((c : Thread ReferenceIdeal.nD ReferenceIdeal.τ).loc ReferenceIdeal.main_arg2) = m (c.tc.loc ReferenceIdeal.main_arg2)
        ∧ r.2.mem ((c : Thread ReferenceIdeal.nD ReferenceIdeal.τ).loc ReferenceIdeal.main_arg3) = m (c.tc.loc ReferenceIdeal.main_arg3))
        ∧ r.2.sem = fun _ => 0 :=
  (θ_run ReferenceIdeal.defs _ _).mono
    (fun r h => ⟨fun c => (h c).2.2, Idealize.ShloMosaic.sem_eq_zero_of_no_sems (by decide) r.2⟩) (run_reference m g)

/-! ## The equation -/

/-- Arrays mixed from the two sides' columns are equal where every column is finite. -/
theorem mixed_eq (X Y : FVec Ideal Cert.Pre_finite.S8x256x8192 .f32) (p q h : Fin 256 → EReal)
    (hX : ∀ b j t, (X (ix3 b j t) : EReal) ≠ ⊤ ∧ (X (ix3 b j t) : EReal) ≠ ⊥)
    (hY : ∀ b j t, (Y (ix3 b j t) : EReal) ≠ ⊤ ∧ (Y (ix3 b j t) : EReal) ≠ ⊥) :
    ReferenceIdeal.Read.mixed X Y p q h = KernelIdeal.Whole.mixed X Y p q h := by
  funext i
  unfold ReferenceIdeal.Read.mixed KernelIdeal.Whole.mixed
  have eR := Column.zr_eq (KernelIdeal.Whole.gcol X (i 0) (i 2)) (KernelIdeal.Whole.gcol Y (i 0) (i 2))
    (fun j => hX (i 0) j (i 2)) (fun j => hY (i 0) j (i 2)) (i 1)
  have eI := Column.zi_eq (KernelIdeal.Whole.gcol X (i 0) (i 2)) (KernelIdeal.Whole.gcol Y (i 0) (i 2))
    (fun j => hX (i 0) j (i 2)) (fun j => hY (i 0) j (i 2)) (i 1)
  rw [eR, eI]
  rfl

theorem algebraic : Cert.algebraic_KernelIdeal_ReferenceIdeal_pre_finite
    (hKernelIdeal := KernelIdeal.Gen.facts) (hReferenceIdeal := ReferenceIdeal.Gen.facts) := by
  intro m g m' g' hpre hargs
  have hfin := fun c => Cert.Pre_finite.decode _ _ _ _ (hpre c)
  refine ⟨KernelIdeal.Whole.result0 m, KernelIdeal.Whole.result1 m, run_kernel m g, ?_⟩
  refine (θ_run ReferenceIdeal.defs _ _).mono (fun r h c => ⟨?_, ?_, (h c).2.2⟩) (run_reference m' g')
  · refine (h c).1.trans ?_
    obtain ⟨a0, a1, a2, a3⟩ := hargs c
    show ReferenceIdeal.Read.mixed (m' (c.tc.loc ReferenceIdeal.main_arg0)) (m' (c.tc.loc ReferenceIdeal.main_arg1))
      (ReferenceIdeal.Read.weight (m' (c.tc.loc ReferenceIdeal.main_arg2)) 0 0)
      (ReferenceIdeal.Read.weight (m' (c.tc.loc ReferenceIdeal.main_arg2)) 1 0)
      (ReferenceIdeal.Read.bias (m' (c.tc.loc ReferenceIdeal.main_arg3)) 0) = _
    rw [a0, a1, a2, a3]
    exact mixed_eq _ _ _ _ _ (fun b j t => (hfin c b j t).1) (fun b j t => (hfin c b j t).2)
  · refine (h c).2.1.trans ?_
    obtain ⟨a0, a1, a2, a3⟩ := hargs c
    show ReferenceIdeal.Read.mixed (m' (c.tc.loc ReferenceIdeal.main_arg0)) (m' (c.tc.loc ReferenceIdeal.main_arg1))
      (ReferenceIdeal.Read.weight (m' (c.tc.loc ReferenceIdeal.main_arg2)) 0 1)
      (ReferenceIdeal.Read.weight (m' (c.tc.loc ReferenceIdeal.main_arg2)) 1 1)
      (ReferenceIdeal.Read.bias (m' (c.tc.loc ReferenceIdeal.main_arg3)) 1) = _
    rw [a0, a1, a2, a3]
    exact mixed_eq _ _ _ _ _ (fun b j t => (hfin c b j t).1) (fun b j t => (hfin c b j t).2)

/-! ## The claim -/

theorem claim : Cert.Claim :=
  ⟨Cert.Kernel.Gen.facts, Cert.KernelIdeal.Gen.facts, Cert.ReferenceIdeal.Gen.facts, Cert.Pre_finite.facts,
    fun m ρ _ => Cert.Kernel.Gen.frame m ρ,
    fun m ρ _ => Cert.KernelIdeal.Gen.frame m ρ,
    fun m ρ _ => Cert.KernelIdeal.Gen.frame m ρ,
    fun m ρ _ => frame_reference m ρ,
    fun m ρ _ => frame_reference m ρ,
    trivial,
    algebraic⟩

end Cert.Proof

end
